-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .bf16 0x3DB5#16 ((11863283 / 134217728 : ℝ) : EReal)

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.blockN ⟨4, ![1, 1024, 16, 128]⟩ ⟨4, ![1, 2048, 16, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![1, 1024, 16, 128]⟩ ⟨4, ![1, 2048, 16, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![1, 1024, 16, 128]⟩ ⟨4, ![1, 2048, 16, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.blockN ⟨4, ![1, 1024, 16, 128]⟩ ⟨4, ![1, 2048, 16, 128]⟩ (Layout.meshBlock [2, 2, 4] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S1x1024x16x128 : Shape := ⟨4, ![1, 1024, 16, 128]⟩
abbrev S_ : Shape := ⟨0, ![]⟩

class Facts : Prop where
  bitsLt_bf16_f32 : FTy.bits .bf16 < FTy.bits .f32
  bcast_S_S1x1024x16x128 : S_.BroadcastsInDim S1x1024x16x128 (![] : Fin 0 → Fin S1x1024x16x128.rank)
  reducesTo_S1x1024x16x128_S_d0_1_2_3 : S1x1024x16x128.ReducesTo [0, 1, 2, 3] S_
  h_S_ : 0 < S_.numel

variable [Facts]

def fn {F : FTy → Type} [FloatOps F] (main_arg0 : FVec F S1x1024x16x128 .bf16) (main_arg1 : FVec F S1x1024x16x128 .bf16) (main_arg2 : FVec F S1x1024x16x128 .bf16) : IVec S_ 1 :=
  let main_v0 : FVec F S1x1024x16x128 .f32 := (extf .f32 · bitsLt_bf16_f32) main_arg0
  let main_v1 : FVec F S1x1024x16x128 .f32 := (extf .f32 · bitsLt_bf16_f32) main_arg1
  let main_v2 : FVec F S1x1024x16x128 .f32 := Host.absf main_v0
  let main_cst : FVec F S_ .f32 := constant S_ .f32 0x7F800000#32
  let main_v3 : FVec F S1x1024x16x128 .f32 := broadcastInDim S1x1024x16x128 ![] bcast_S_S1x1024x16x128 main_cst
  let main_v4 : IVec S1x1024x16x128 1 := cmpf .olt main_v2 main_v3
  let main_c : IVec S_ 1 := constantI S_ 1 1#1
  let main_v5 : IVec S_ 1 := (fun x v => Host.reduce IntOp.andi x v reducesTo_S1x1024x16x128_S_d0_1_2_3 h_S_) main_v4 main_c
  let main_v6 : FVec F S1x1024x16x128 .f32 := Host.absf main_v1
  let main_cst_0 : FVec F S_ .f32 := constant S_ .f32 0x7F800000#32
  let main_v7 : FVec F S1x1024x16x128 .f32 := broadcastInDim S1x1024x16x128 ![] bcast_S_S1x1024x16x128 main_cst_0
  let main_v8 : IVec S1x1024x16x128 1 := cmpf .olt main_v6 main_v7
  let main_c_1 : IVec S_ 1 := constantI S_ 1 1#1
  let main_v9 : IVec S_ 1 := (fun x v => Host.reduce IntOp.andi x v reducesTo_S1x1024x16x128_S_d0_1_2_3 h_S_) main_v8 main_c_1
  let main_v10 : IVec S_ 1 := andi main_v5 main_v9
  main_v10
-- ==== Pre_finite_qk_ReferenceIdeal.lean ====
abbrev S1x2048x16x128 : Shape := ⟨4, ![1, 2048, 16, 128]⟩
abbrev S_ : Shape := ⟨0, ![]⟩

class Facts : Prop where
  bitsLt_bf16_f32 : FTy.bits .bf16 < FTy.bits .f32
  bcast_S_S1x2048x16x128 : S_.BroadcastsInDim S1x2048x16x128 (![] : Fin 0 → Fin S1x2048x16x128.rank)
  reducesTo_S1x2048x16x128_S_d0_1_2_3 : S1x2048x16x128.ReducesTo [0, 1, 2, 3] S_
  h_S_ : 0 < S_.numel

variable [Facts]

def fn {F : FTy → Type} [FloatOps F] (main_arg0 : FVec F S1x2048x16x128 .bf16) (main_arg1 : FVec F S1x2048x16x128 .bf16) (main_arg2 : FVec F S1x2048x16x128 .bf16) : IVec S_ 1 :=
  let main_v0 : FVec F S1x2048x16x128 .f32 := (extf .f32 · bitsLt_bf16_f32) main_arg0
  let main_v1 : FVec F S1x2048x16x128 .f32 := (extf .f32 · bitsLt_bf16_f32) main_arg1
  let main_v2 : FVec F S1x2048x16x128 .f32 := Host.absf main_v0
  let main_cst : FVec F S_ .f32 := constant S_ .f32 0x7F800000#32
  let main_v3 : FVec F S1x2048x16x128 .f32 := broadcastInDim S1x2048x16x128 ![] bcast_S_S1x2048x16x128 main_cst
  let main_v4 : IVec S1x2048x16x128 1 := cmpf .olt main_v2 main_v3
  let main_c : IVec S_ 1 := constantI S_ 1 1#1
  let main_v5 : IVec S_ 1 := (fun x v => Host.reduce IntOp.andi x v reducesTo_S1x2048x16x128_S_d0_1_2_3 h_S_) main_v4 main_c
  let main_v6 : FVec F S1x2048x16x128 .f32 := Host.absf main_v1
  let main_cst_0 : FVec F S_ .f32 := constant S_ .f32 0x7F800000#32
  let main_v7 : FVec F S1x2048x16x128 .f32 := broadcastInDim S1x2048x16x128 ![] bcast_S_S1x2048x16x128 main_cst_0
  let main_v8 : IVec S1x2048x16x128 1 := cmpf .olt main_v6 main_v7
  let main_c_1 : IVec S_ 1 := constantI S_ 1 1#1
  let main_v9 : IVec S_ 1 := (fun x v => Host.reduce IntOp.andi x v reducesTo_S1x2048x16x128_S_d0_1_2_3 h_S_) main_v8 main_c_1
  let main_v10 : IVec S_ 1 := andi main_v5 main_v9
  main_v10
-- ==== Kernel.lean ====
abbrev S1x1024x16x128 : Shape := ⟨4, ![1, 1024, 16, 128]⟩
abbrev S1024x2048 : Shape := ⟨2, ![1024, 2048]⟩
abbrev S16x1024 : Shape := ⟨2, ![16, 1024]⟩
abbrev S4 : Shape := ⟨1, ![4]⟩
abbrev S_ : Shape := ⟨0, ![]⟩
abbrev S1 : Shape := ⟨1, ![1]⟩
abbrev S1024x512 : Shape := ⟨2, ![1024, 512]⟩
abbrev S1024x128 : Shape := ⟨2, ![1024, 128]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 8
  | .vmem => 7
  | .smem => 0
  | _ => 0

abbrev bufTy : (tb : Table) → Fin (tcTables nBuf tb) → BufTy
  | .hbm, ⟨0, _⟩ => ⟨S1x1024x16x128, .bf16⟩
  | .hbm, ⟨1, _⟩ => ⟨S1x1024x16x128, .bf16⟩
  | .hbm, ⟨2, _⟩ => ⟨S1x1024x16x128, .bf16⟩
  | .hbm, ⟨3, _⟩ => ⟨S1024x2048, .bf16⟩
  | .hbm, ⟨4, _⟩ => ⟨S1024x2048, .bf16⟩
  | .hbm, ⟨5, _⟩ => ⟨S1024x2048, .bf16⟩
  | .hbm, ⟨6, _⟩ => ⟨S1024x2048, .f32⟩
  | .hbm, ⟨7, _⟩ => ⟨S1x1024x16x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .bf16⟩
  | .local _ .vmem, ⟨5, _⟩ => ⟨S1024x2048, .bf16⟩
  | .local _ .vmem, ⟨6, _⟩ => ⟨S16x1024, .f32⟩
  | _, _ => ⟨S1x1024x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v17 : BitVec 32 := Scalar.muli v2 c8_i32_10
  let v18 : BitVec 32 := Scalar.addi c0_i32_11 v17
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_12 : BitVec 32 := 4#32
  let v19 : BitVec 32 := Scalar.muli v9 c4_i32_12
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v21 : BitVec 32 := Scalar.muli v8 c1_i32_13
  let v22 : BitVec 32 := Scalar.addi v20 v21
  v22.toNat
def k0_dev3 (d0 : Dev nD) : Nat :=
  let c0_i32_21 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_20 : BitVec 32 := 8#32
  let v29 : BitVec 32 := Scalar.muli v2 c8_i32_20
  let v30 : BitVec 32 := Scalar.addi c0_i32_21 v29
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_22 : BitVec 32 := 4#32
  let v31 : BitVec 32 := Scalar.muli v9 c4_i32_22
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v33 : BitVec 32 := Scalar.muli v8 c1_i32_23
  let v34 : BitVec 32 := Scalar.addi v32 v33
  v34.toNat
def k0_dev4 (d0 : Dev nD) : Nat :=
  let c0_i32_31 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_30 : BitVec 32 := 8#32
  let v41 : BitVec 32 := Scalar.muli v2 c8_i32_30
  let v42 : BitVec 32 := Scalar.addi c0_i32_31 v41
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_32 : BitVec 32 := 4#32
  let v43 : BitVec 32 := Scalar.muli v9 c4_i32_32
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v45 : BitVec 32 := Scalar.muli v8 c1_i32_33
  let v46 : BitVec 32 := Scalar.addi v44 v45
  v46.toNat
def k0_dev5 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v53 : BitVec 32 := Scalar.muli v2 c8_i32_39
  let v54 : BitVec 32 := Scalar.addi c0_i32_40 v53
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_41 : BitVec 32 := 4#32
  let v55 : BitVec 32 := Scalar.muli v9 c4_i32_41
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v57 : BitVec 32 := Scalar.muli v8 c1_i32_42
  let v58 : BitVec 32 := Scalar.addi v56 v57
  v58.toNat
def k0_dev6 (d0 : Dev nD) : Nat :=
  let c0_i32_50 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_49 : BitVec 32 := 8#32
  let v65 : BitVec 32 := Scalar.muli v2 c8_i32_49
  let v66 : BitVec 32 := Scalar.addi c0_i32_50 v65
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_51 : BitVec 32 := 4#32
  let v67 : BitVec 32 := Scalar.muli v9 c4_i32_51
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v69 : BitVec 32 := Scalar.muli v8 c1_i32_52
  let v70 : BitVec 32 := Scalar.addi v68 v69
  v70.toNat
def k0_dev7 (d0 : Dev nD) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_58 : BitVec 32 := 8#32
  let v77 : BitVec 32 := Scalar.muli v2 c8_i32_58
  let v78 : BitVec 32 := Scalar.addi c0_i32_59 v77
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_60 : BitVec 32 := 4#32
  let v79 : BitVec 32 := Scalar.muli v9 c4_i32_60
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v81 : BitVec 32 := Scalar.muli v8 c1_i32_61
  let v82 : BitVec 32 := Scalar.addi v80 v81
  v82.toNat
def k0_dev8 (d0 : Dev nD) : Nat :=
  let c0_i32_68 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_67 : BitVec 32 := 8#32
  let v89 : BitVec 32 := Scalar.muli v2 c8_i32_67
  let v90 : BitVec 32 := Scalar.addi c0_i32_68 v89
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_69 : BitVec 32 := 4#32
  let v91 : BitVec 32 := Scalar.muli v9 c4_i32_69
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v93 : BitVec 32 := Scalar.muli v8 c1_i32_70
  let v94 : BitVec 32 := Scalar.addi v92 v93
  v94.toNat
def k0_dev9 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_76 : BitVec 32 := 8#32
  let v101 : BitVec 32 := Scalar.muli v2 c8_i32_76
  let v102 : BitVec 32 := Scalar.addi c0_i32_77 v101
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_78 : BitVec 32 := 4#32
  let v103 : BitVec 32 := Scalar.muli v9 c4_i32_78
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v105 : BitVec 32 := Scalar.muli v8 c1_i32_79
  let v106 : BitVec 32 := Scalar.addi v104 v105
  v106.toNat
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale" => some ((11863283 / 134217728 : ℝ) : EReal)
  | _ => none
-- ==== ReferenceIdeal.lean ====
abbrev S1x2048x16x128 : Shape := ⟨4, ![1, 2048, 16, 128]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 23
  | .vmem => 0
  | .smem => 0
  | _ => 0

abbrev bufTy : (tb : Table) → Fin (tcTables nBuf tb) → BufTy
  | .hbm, ⟨0, _⟩ => ⟨S1x2048x16x128, .bf16⟩
  | .hbm, ⟨1, _⟩ => ⟨S1x2048x16x128, .bf16⟩
  | .hbm, ⟨2, _⟩ => ⟨S1x2048x16x128, .bf16⟩
  | .hbm, ⟨3, _⟩ => ⟨S1x2048x16x128, .f32⟩
  | .hbm, ⟨4, _⟩ => ⟨S1x2048x16x128, .f32⟩
  | .hbm, ⟨5, _⟩ => ⟨S1x16x2048x2048, .f32⟩
  | .hbm, ⟨6, _⟩ => ⟨S_, .f32⟩
  | .hbm, ⟨7, _⟩ => ⟨S1x16x2048x2048, .f32⟩
  | .hbm, ⟨8, _⟩ => ⟨S1x16x2048x2048, .f32⟩
  | .hbm, ⟨9, _⟩ => ⟨S_, .f32⟩
  | .hbm, ⟨10, _⟩ => ⟨S1x16x2048, .f32⟩
  | .hbm, ⟨11, _⟩ => ⟨S1x16x2048x1, .f32⟩
  | .hbm, ⟨12, _⟩ => ⟨S1x16x2048x2048, .f32⟩
  | .hbm, ⟨13, _⟩ => ⟨S1x16x2048x2048, .f32⟩
  | .hbm, ⟨14, _⟩ => ⟨S1x16x2048x2048, .f32⟩
  | .hbm, ⟨15, _⟩ => ⟨S_, .f32⟩
  | .hbm, ⟨16, _⟩ => ⟨S1x16x2048, .f32⟩
  | .hbm, ⟨17, _⟩ => ⟨S1x16x2048x1, .f32⟩
  | .hbm, ⟨18, _⟩ => ⟨S1x16x2048x2048, .f32⟩
  | .hbm, ⟨19, _⟩ => ⟨S1x16x2048x2048, .f32⟩
  | .hbm, ⟨20, _⟩ => ⟨S1x2048x16x128, .f32⟩
  | .hbm, ⟨21, _⟩ => ⟨S1x16x128x2048, .f32⟩
  | .hbm, ⟨22, _⟩ => ⟨S1x2048x16x128, .f32⟩
  | _, _ => ⟨S1x2048x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.KernelIdeal.Body.lean ====
/- The kernel's body written by head and by group: the same sequence of operations as the printed one, with the head (of 16) and
   the group of heads (of 4) as parameters, so that each step is reasoned about once. -/
module

public import proofs.«01_k».proof.Proof.Gen.KernelIdeal
public import proofs.«01_k».proof.Proof.Gen.KernelIdeal.Points
public import proofs.«01_k».proof.Proof.Gen.KernelIdeal.Launch

@[expose] public section

noncomputable section

namespace Cert.KernelIdeal.Att

open Idealize.ShloMosaic Idealize.ShloMosaic.TcCoe Idealize.SL Idealize.SL.Sem Cert.KernelIdeal.Gen

variable {F : FTy → Type} [FloatOps F] [Named F]

/-- The scale that the queries are multiplied by. -/
def scaleC : F .bf16 := Named.named κ "scale" 0x3DB5#16

/-! ## The buffers -/

/-- The queries, this device's rows. -/
abbrev qM : Memref sig .tc .vmem S1024x2048 .bf16 := Memref.whole cc0_stg0_0
/-- The keys (false) or values (true), this device's rows. -/
abbrev srcM : Bool → Memref sig .tc .vmem S1024x2048 .bf16
  | false => Memref.whole cc0_stg1_0
  | true => Memref.whole cc0_stg2_0
/-- The result, this device's rows. -/
abbrev oM : Memref sig .tc .vmem S1024x2048 .f32 := Memref.whole cc0_stg3_0
/-- Where the peer's keys (false) or values (true) land. -/
abbrev dstM : Bool → Memref sig .tc .vmem S1024x2048 .bf16
  | false => Memref.whole cc0_scratch0
  | true => Memref.whole cc0_scratch1
/-- The sums of the exponentials over this device's keys, a row for each head. -/
abbrev lM : Memref sig .tc .vmem S16x1024 .f32 := Memref.whole cc0_scratch2

theorem src_whole : ∀ b, (srcM b).IsWhole
  | false => Memref.isWhole_whole _
  | true => Memref.isWhole_whole _
theorem dst_whole : ∀ b, (dstM b).IsWhole
  | false => Memref.isWhole_whole _
  | true => Memref.isWhole_whole _

/-- The semaphore arrays of the copies: on the sender, and on the receiver. -/
abbrev sendA : Bool → DmaSems sig S4
  | false => cc0_scratch3
  | true => cc0_scratch5
abbrev recvA : Bool → DmaSems sig S4
  | false => cc0_scratch4
  | true => cc0_scratch6

/-! ## The rectangles: the columns of a head, the row of a head, the columns of a group -/

theorem head_inb (h : Fin 16) : ∀ a, (![0, 128 * h.val] : Fin 2 → Nat) a + S1024x128.size a ≤ S1024x2048.size a := by
  revert h; decide
theorem row_inb (h : Fin 16) : ∀ a, (![h.val, 0] : Fin 2 → Nat) a + S1x1024.size a ≤ S16x1024.size a := by
  revert h; decide
theorem group_inb (g : Fin 4) : ∀ a, (![0, 512 * g.val] : Fin 2 → Nat) a + S1024x512.size a ≤ S1024x2048.size a := by
  revert g; decide
theorem sem_inb (g : Fin 4) : ∀ a, (![g.val] : Fin 1 → Nat) a + S1.size a ≤ S4.size a := by
  revert g; decide

/-- The 128 columns of head h. -/
abbrev headR (h : Fin 16) : Rect S1024x2048 := Rect.unit (s := S1024x2048) ![0, 128 * h.val] S1024x128.size (head_inb h)
/-- The row of head h. -/
abbrev rowR (h : Fin 16) : Rect S16x1024 := Rect.unit (s := S16x1024) ![h.val, 0] S1x1024.size (row_inb h)
/-- The 512 columns of group g, four heads'. -/
abbrev groupR (g : Fin 4) : Rect S1024x2048 := Rect.unit (s := S1024x2048) ![0, 512 * g.val] S1024x512.size (group_inb g)
abbrev semR (g : Fin 4) : Rect S4 := Rect.unit (s := S4) ![g.val] S1.size (sem_inb g)

theorem group_words (g : Fin 4) : (groupR g).WholeWords (EltTy.packing .bf16) := by
  fin_cases g
  · exact wordsbf16_S1024x2048_S1024x512_0_0
  · exact wordsbf16_S1024x2048_S1024x512_0_512
  · exact wordsbf16_S1024x2048_S1024x512_0_1024
  · exact wordsbf16_S1024x2048_S1024x512_0_1536

/-- The slices that a copy moves, and its two semaphores. -/
abbrev srcS (b : Bool) (g : Fin 4) : Memref sig .tc .vmem S1024x512 .bf16 := (srcM b).slice (groupR g) (fun _ => rfl)
abbrev dstS (b : Bool) (g : Fin 4) : Memref sig .tc .vmem S1024x512 .bf16 := (dstM b).slice (groupR g) (fun _ => rfl)
abbrev sendS (b : Bool) (g : Fin 4) : DmaSem sig := (((sendA b).slice (semR g)).squeeze S_ squeezes_S1_S_).sem
abbrev recvS (b : Bool) (g : Fin 4) : DmaSem sig := (((recvA b).slice (semR g)).squeeze S_ squeezes_S1_S_).sem

theorem src_words (b : Bool) (g : Fin 4) : (srcS b g).view.WordExact := (src_whole b).wordExact_slice rfl _ (group_words g)
theorem dst_words (b : Bool) (g : Fin 4) : (dstS b g).view.WordExact := (dst_whole b).wordExact_slice rfl _ (group_words g)

/-- The barrier semaphore. -/
abbrev barS : Sem sig := (SemArray.scalar (sig.barrier 0 rfl) : Sems sig S_).sem

/-- The device that a copy of group g goes to, as the kernel computes it. -/
def devN : Bool → Fin 4 → Dev nD → Dev nD
  | false, 0, d => ⟨k0_dev2 d, k0_dev2_lt d⟩
  | true, 0, d => ⟨k0_dev3 d, k0_dev3_lt d⟩
  | false, 1, d => ⟨k0_dev4 d, k0_dev4_lt d⟩
  | true, 1, d => ⟨k0_dev5 d, k0_dev5_lt d⟩
  | false, 2, d => ⟨k0_dev6 d, k0_dev6_lt d⟩
  | true, 2, d => ⟨k0_dev7 d, k0_dev7_lt d⟩
  | false, 3, d => ⟨k0_dev8 d, k0_dev8_lt d⟩
  | true, 3, d => ⟨k0_dev9 d, k0_dev9_lt d⟩

/-! ## The arithmetic of a head -/

/-- The queries of a head, scaled. -/
def scaled (q : FVec F S1024x128 .bf16) : FVec F S1024x128 .bf16 :=
  mulf (shapeCast S1024x128 q shapeCasts_S1024x128_S1024x128) (broadcast S1024x128 scaleC)
/-- The exponentials of the scores of the queries against the keys k. -/
def expScores (q k : FVec F S1024x128 .bf16) : FVec F S1024x1024 .f32 :=
  exp (matmul dot_S1024x128_S1024x128_S1024x1024_1_1_0_0_n_n none (scaled q) k (constant S1024x1024 .f32 0x00000000#32))
/-- Their sums over the keys. -/
def sumExp (q k : FVec F S1024x128 .bf16) : FVec F S1024 .f32 :=
  multiReduction .add [1] S1024 (expScores q k) 0x00000000#32 reduces_S1024x1024_S1024 (.inl rfl) rfl
/-- The values weighted by them. -/
def weighted (q k v : FVec F S1024x128 .bf16) : FVec F S1024x128 .f32 :=
  matmul dot_S1024x1024_S1024x128_S1024x128_1_0_0_1_n_n none (truncf .bf16 (expScores q k) bitsLt_bf16_f32) v (constant S1024x128 .f32 0x00000000#32)

/-- A block of bf16 read as it is. -/
def asIs (x : FVec F S1024x128 .bf16) : FVec F S1024x128 .bf16 := shapeCast S1024x128 x shapeCasts_S1024x128_S1024x128

/-- The row of sums that the local half of a head leaves. -/
def localRow (q k : FVec F S1024x128 .bf16) : FVec F S1x1024 .f32 :=
  shapeCast S1x1024 (sumExp q (asIs k)) shapeCasts_S1024_S1x1024

/-- What the remote half of a head leaves: the two weighted sums added, times the inverse of the two sums added. -/
def combine (l : FVec F S1x1024 .f32) (o : FVec F S1024x128 .f32) (l2 : FVec F S1024 .f32) (o2 : FVec F S1024x128 .f32) : FVec F S1024x128 .f32 :=
  mulf (addf (shapeCast S1024x128 o shapeCasts_S1024x128_S1024x128) o2)
    (broadcastTo S1024x128
      (shapeCast S1024x1
        (divf (broadcast S1024 (Scalar.ofBits .f32 0x3F800000#32)) (addf (shapeCast S1024 l shapeCasts_S1x1024_S1024) l2))
        shapeCasts_S1024_S1024x1)
      broadcasts_S1024x1_S1024x128)

/-! ## The steps, each before the rest of the program -/

abbrev P (F : FTy → Type) : Type 1 := Prog (TpuEff nD τ sig (Elt F) Λ₀ .tc) PUnit

/-- One copy of a group to device p. -/
def sendTo (p : Dev nD) (b : Bool) (g : Fin 4) (k : P F) : P F :=
  .op (.enqueueDma (srcS b g) (.remote (Dev.tc p) (dstS b g) (.dma (sendS b g))) (.dma (recvS b g))
    (src_words b g) (dst_words b g) ⟨⟨rfl, Or.inl rfl⟩, trivial⟩) fun _ => k
/-- One copy of a group to the device that the kernel computes. -/
def sendOp (d : Dev nD) (b : Bool) (g : Fin 4) (k : P F) : P F := sendTo (devN b g d) b g k

/-- The wait for the peer's copy of a group. -/
def recvWait (b : Bool) (g : Fin 4) (k : P F) : P F :=
  .op (.waitDma2 (recvS b g) (srcS b g) (dstS b g) (src_words b g) (dst_words b g)) fun _ => k

/-- The wait for this device's own copy of a group to have been read. -/
def sendWait (b : Bool) (g : Fin 4) (k : P F) : P F :=
  .op (.waitDma2 (sendS b g) (dstS b g) (srcS b g) (dst_words b g) (src_words b g)) fun _ => k

/-- A head against this device's own keys and values. -/
def localHead (h : Fin 16) (rest : P F) : P F :=
  .op (.load qM (headR h).toLoadRect (View.loadsAt_vmem h_S1024x128)) fun (q : Vec F S1024x128 .bf16) =>
  .op (.load (srcM false) (headR h).toLoadRect (View.loadsAt_vmem h_S1024x128)) fun (k : Vec F S1024x128 .bf16) =>
  .op (.load (srcM true) (headR h).toLoadRect (View.loadsAt_vmem h_S1024x128)) fun (v : Vec F S1024x128 .bf16) =>
  .op (.load oM (headR h).toLoadRect (View.loadsAt_vmem h_S1024x128)) fun _ =>
  .op (.store oM (headR h) (weighted q (asIs k) (asIs v)) Finset.univ (View.stores_vmem_bits_univ h_S1024x128 rfl) (.inl rfl)) fun _ =>
  .op (.load lM (rowR h).toLoadRect (View.loadsAt_vmem h_S1x1024)) fun _ =>
  .op (.store lM (rowR h) (localRow q k) Finset.univ (View.stores_vmem_bits_univ h_S1x1024 rfl) (.inl rfl)) fun _ => rest

/-- A head against the peer's keys and values, and the end of the head. -/
def remoteHead (h : Fin 16) (rest : P F) : P F :=
  .op (.load qM (headR h).toLoadRect (View.loadsAt_vmem h_S1024x128)) fun (q : Vec F S1024x128 .bf16) =>
  .op (.load (dstM false) (headR h).toLoadRect (View.loadsAt_vmem h_S1024x128)) fun (k : Vec F S1024x128 .bf16) =>
  .op (.load (dstM true) (headR h).toLoadRect (View.loadsAt_vmem h_S1024x128)) fun (v : Vec F S1024x128 .bf16) =>
  .op (.load lM (rowR h).toLoadRect (View.loadsAt_vmem h_S1x1024)) fun (l : Vec F S1x1024 .f32) =>
  .op (.load oM (headR h).toLoadRect (View.loadsAt_vmem h_S1024x128)) fun (o : Vec F S1024x128 .f32) =>
  .op (.load oM (headR h).toLoadRect (View.loadsAt_vmem h_S1024x128)) fun _ =>
  .op (.store oM (headR h) (combine l o (sumExp q k) (weighted q k v)) Finset.univ (View.stores_vmem_bits_univ h_S1024x128 rfl) (.inl rfl)) fun _ => rest

/-! ## The body -/

/-- A step for each entry of a list, then the rest. -/
def steps {T : Type} (f : T → P F → P F) : List T → P F → P F
  | [], k => k
  | t :: ts, k => f t (steps f ts k)

/-- The groups, and the heads, in the order in which the kernel takes them. -/
abbrev groups : List (Fin 4) := [0, 1, 2, 3]
abbrev heads : List (Fin 16) := [0, 1, 2, 3, 4, 5, 6, 7, 8, 9, 10, 11, 12, 13, 14, 15]
abbrev headsOf : Fin 4 → List (Fin 16)
  | 0 => [0, 1, 2, 3]
  | 1 => [4, 5, 6, 7]
  | 2 => [8, 9, 10, 11]
  | 3 => [12, 13, 14, 15]

/-- A copy: its group, and whether of the keys (false) or the values (true). -/
abbrev J : Type := Fin 4 × Bool
/-- The copies in the order in which they are started, and waited for. -/
abbrev copies : List J := [(0, false), (0, true), (1, false), (1, true), (2, false), (2, true), (3, false), (3, true)]

def sends (d : Dev nD) : P F → P F := steps (fun j => sendOp d j.2 j.1) copies
def locals : P F → P F := steps localHead heads
def group (g : Fin 4) (k : P F) : P F := recvWait false g (recvWait true g (steps remoteHead (headsOf g) k))
def remotes : P F → P F := steps group groups
def drains : P F → P F := steps (fun j => sendWait j.2 j.1) copies

/-- The body: tell the peer that this device is here, wait for it, send everything, work on what is here, work on what arrives,
    see that what was sent has been read. -/
def bodyS : P F :=
  .op .deviceId fun d =>
  .op (.semSignal (Dev.tc (⟨k0_dev1 d, k0_dev1_lt d⟩ : Dev nD)) barS 1) fun _ =>
  .op (.semWait barS 1) fun _ =>
  sends d (locals (remotes (drains (.ret ⟨⟩))))

theorem body_eq : bodyAt0 (F := F) t0_0 = bodyS := rfl

end Cert.KernelIdeal.Att

end
-- ==== Proof.KernelIdeal.Schedule.lean ====
/- The protocol between the two devices that exchange their keys and values: the semaphores' cells, what is paid to each, by whom,
   and the contents that each payment hands over. -/
module

public import proofs.«01_k».proof.Proof.KernelIdeal.Body
public import Idealize.ShloMosaic.Lib.StableHlo
public import Idealize.ShloMosaic.Lib.Tactic
public import Idealize.ShloMosaic.Lib.Pipeline.RegionTalk
public import Idealize.ShloMosaic.Lib.Pipeline.BigSepL
public import Idealize.ShloMosaic.Lib.Ring
public import Idealize.ShloMosaic.Harness.Basic

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## The peer -/

/-- The device that this one exchanges keys and values with: the one with the other y. -/
def pr (c : Dev nD) : Dev nD := ⟨(c.val + 4) % 8 + 8 * (c.val / 8), by have := c.isLt; simp only [nD] at *; omega⟩

theorem pr_pr (c : Dev nD) : pr (pr c) = c := by revert c; decide
/-- Taking the peer, as a permutation of the devices. -/
def swap : Dev nD ≃ Dev nD := ⟨pr, pr, pr_pr, pr_pr⟩

/-- The device that the barrier's signal and every copy go to is the peer. -/
theorem dev1_eq (c : Dev nD) : (⟨k0_dev1 c, k0_dev1_lt c⟩ : Dev nD) = pr c := by revert c; decide
theorem devN_eq (b : Bool) (g : Fin 4) (c : Dev nD) : devN b g c = pr c := by revert b g c; decide

/-! ## The cells -/

/-- The semaphore at an end of a copy: the sender's (false) or the receiver's (true). -/
abbrev semAt (s : J × Bool) : SemLoc sig := match s.2 with
  | false => .dma (sendS s.1.2 s.1.1)
  | true => .dma (recvS s.1.2 s.1.1)

abbrev barCell (c : Dev nD) : GSem nD τ sig := ((c : Thread nD τ), .reg barS)
abbrev cellAt (c : Dev nD) (s : J × Bool) : GSem nD τ sig := ((c : Thread nD τ), semAt s)
abbrev sendCell (c : Dev nD) (j : J) : GSem nD τ sig := ((c : Thread nD τ), .dma (sendS j.2 j.1))
abbrev recvCell (c : Dev nD) (j : J) : GSem nD τ sig := ((c : Thread nD τ), .dma (recvS j.2 j.1))

/-- Which of the protocol's semaphores one is: the barrier's (none), an end of a copy. -/
def slotOf : SemLoc sig → Option (Option (J × Bool))
  | .reg s => if s = barS then some none else none
  | .dma i => if h : 4 ≤ i.val then
      some (some ((⟨i.val % 4, Nat.mod_lt _ (by decide)⟩, decide (12 ≤ i.val)), decide ((i.val / 4) % 2 = 0))) else none

theorem slotOf_bar : slotOf (.reg barS) = some none := by decide
theorem slotOf_semAt (s : J × Bool) : slotOf (semAt s) = some (some s) := by revert s; decide
theorem semAt_inj : Function.Injective semAt := fun s t h => by
  have := slotOf_semAt s; rw [h, slotOf_semAt] at this; simpa using this.symm
theorem semAt_ne_bar (s : J × Bool) : semAt s ≠ .reg barS := fun h => by
  have := slotOf_semAt s; rw [h, slotOf_bar] at this; simp at this

/-! ## What a copy pays -/

/-- The units that a copy adds to each of its two semaphores. -/
abbrev N : ℕ := (dstS false 0).view.dmaCredit
theorem N_pos : 0 < N := View.dmaCredit_pos _ (by decide)
theorem dst_amount (b : Bool) (g : Fin 4) : (dstS b g).view.dmaCredit = N := by revert b g; decide
theorem src_amount (b : Bool) (g : Fin 4) : (srcS b g).view.dmaCredit = N := by revert b g; decide

/-! ## The contents -/

/-- The contents of a source buffer as the contents of the buffer that it is copied to. -/
def toDst : (b : Bool) → (srcM b).view.ty.Contents (Elt F) → (dstM b).view.ty.Contents (Elt F)
  | false, f => f
  | true, f => f

/-- A copied group holds what the source holds there, whatever was there before. -/
theorem landing (b : Bool) (g : Fin 4) (fd : (dstM b).view.ty.Contents (Elt F)) (fs : (srcM b).view.ty.Contents (Elt F)) :
    ∀ i ∈ (dstS b g).view.set, (dstS b g).view.write (Elt F) fd ((srcS b g).view.read (Elt F) fs) Finset.univ i = toDst b fs i := by
  intro i hi
  obtain ⟨x, -, rfl⟩ := Finset.mem_map.mp hi
  rw [View.write_emb_of_mem _ _ (Finset.mem_univ x)]
  cases b <;> rfl

/-! ## The resource algebra: the pipeline's copy and the protocol's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- The keys and values of every device, as its staging buffers hold them. -/
abbrev Contents (F : FTy → Type) : Type := Dev nD → (b : Bool) → (srcM b).view.ty.Contents (Elt F)

variable (KV : Contents F)

/-- A group of device c's keys or values, held at half a share. -/
abbrev srcPts (c : Dev nD) (j : J) : sProp 𝕄 :=
  (srcS j.2 j.1).view.loc (c : Thread nD τ) ↦[(srcS j.2 j.1).view.set]{fullShare.right} KV c j.2
/-- A group of device c's landing buffers, at contents f. -/
abbrev dstPts (c : Dev nD) (j : J) (f : (dstM j.2).view.ty.Contents (Elt F)) : sProp 𝕄 :=
  (dstS j.2 j.1).view.loc (c : Thread nD τ) ↦[(dstS j.2 j.1).view.set]{fullShare} f

/-- Paid to device c's barrier by its peer: each group of the peer's landing buffers, and that the peer's cell for it is open. -/
def barPay (c : Dev nD) : sProp 𝕄 :=
  bigSep Finset.univ fun j : J => iprop((∃ f, dstPts (pr c) j f) ∗ reached ER (recvCell (pr c) j) 0)
/-- Paid at an end of a copy: on the sender the group of the source back, on the receiver the group of the landing buffer
    at the peer's contents. -/
def endPay (c : Dev nD) (s : J × Bool) : sProp 𝕄 := match s.2 with
  | false => srcPts KV c s.1
  | true => dstPts c s.1 (toDst s.1.2 (KV (pr c) s.1.2))

/-- One round on every cell of the protocol, with one duty. -/
def talk : Rounds.Schedule (GSem nD τ sig) Unit 𝕄 where
  duties g r := if r = 0 ∧ g.1.2 = .tc ∧ (slotOf g.2).isSome then {()} else ∅
  unitless _ := False
  amount g _ _ := match slotOf g.2 with
    | some none => 1
    | _ => N
  payload g _ _ := match slotOf g.2 with
    | some none => barPay g.1.1
    | some (some s) => endPay KV g.1.1 s
    | none => iprop(emp)
  amount_pos g _ _ _ := by
    split
    · exact Nat.one_pos
    · exact N_pos

instance endPay_storable (c : Dev nD) (s : J × Bool) : BI.Storable (upEmb : UEmb _ 𝕄) (endPay KV c s) := by
  unfold endPay; split <;> infer_instance
instance barPay_storable (c : Dev nD) : BI.Storable (upEmb : UEmb _ 𝕄) (barPay c : sProp 𝕄) := by
  unfold barPay; infer_instance
instance talk_payload_storable (g : GSem nD τ sig) (r : ℕ) (d : Unit) :
    BI.Storable (upEmb : UEmb _ 𝕄) ((talk KV).payload g r d) := by
  dsimp only [talk]; split <;> infer_instance

section Tables

variable (c : Dev nD) (s : J × Bool) (j : J)

theorem duties_bar : (talk KV).duties (barCell c) 0 = {()} := by
  dsimp only [talk]; exact if_pos ⟨rfl, rfl, by rw [slotOf_bar]; rfl⟩
theorem duties_at : (talk KV).duties (cellAt c s) 0 = {()} := by
  dsimp only [talk]; exact if_pos ⟨rfl, rfl, by rw [slotOf_semAt]; rfl⟩
theorem duties_later (g : GSem nD τ sig) : ∀ r, 0 + 1 ≤ r → (talk KV).duties g r = ∅ :=
  fun r hr => by dsimp only [talk]; exact if_neg fun h => by omega

theorem amount_bar : (talk KV).amount (barCell c) 0 () = 1 := by dsimp only [talk]; rw [slotOf_bar]
theorem amount_at : (talk KV).amount (cellAt c s) 0 () = N := by dsimp only [talk]; rw [slotOf_semAt]

theorem payload_bar : (talk KV).payload (barCell c) 0 () = barPay c := by dsimp only [talk]; rw [slotOf_bar]
theorem payload_at : (talk KV).payload (cellAt c s) 0 () = endPay KV c s := by dsimp only [talk]; rw [slotOf_semAt]

theorem expect_bar : (talk KV).expect (barCell c) 0 = 1 := by
  unfold Schedule.expect Schedule.amountOf; rw [duties_bar, Finset.sum_singleton, amount_bar]
theorem expect_at : (talk KV).expect (cellAt c s) 0 = N := by
  unfold Schedule.expect Schedule.amountOf; rw [duties_at, Finset.sum_singleton, amount_at]

theorem rest_bar : bigSep ((talk KV).duties (barCell c) 0 \ ∅) (fun u => (talk KV).payload (barCell c) 0 u) = barPay c := by
  rw [Finset.sdiff_empty, duties_bar, bigSep_singleton, payload_bar]
theorem rest_at : bigSep ((talk KV).duties (cellAt c s) 0 \ ∅) (fun u => (talk KV).payload (cellAt c s) 0 u) = endPay KV c s := by
  rw [Finset.sdiff_empty, duties_at, bigSep_singleton, payload_at]

end Tables

/-! ## What a device owes, and the order of the waits -/

/-- The units owed to the peer's cells for the copies still to be started. -/
def owe (c : Dev nD) : List J → CellTallies nD τ sig Unit
  | [] => 0
  | j :: js => owe c js + tallyAt (recvCell (pr c) j) () N

/-- At launch: all copies and the barrier's unit. -/
def O₀ (c : Dev nD) : CellTallies nD τ sig Unit := owe c copies + tallyAt (barCell (pr c)) () 1

theorem owe_pos {c : Dev nD} {js : List J} {g : GSem nD τ sig} {u : Unit} (h : 0 < owe c js g u) : ∃ j, g = recvCell (pr c) j := by
  induction js with
  | nil => exact absurd h (Nat.lt_irrefl 0)
  | cons j js ih =>
    rw [owe, Pi.add_apply, Finsupp.add_apply] at h
    rcases Nat.add_pos_iff_pos_or_pos.mp h with h | h
    · exact ih h
    · exact ⟨j, (Pipeline.tallyAt_pos h).1⟩

def L (g : GSem nD τ sig) : Finset Unit := if g.1.2 = .tc then {()} else ∅
/-- The barrier is waited for before what the copies pay. -/
def lv (g : GSem nD τ sig) (_ : Unit) : ℕ := match slotOf g.2 with
  | some none => 1
  | some (some (_, true)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem mayWait_bar (c : Dev nD) (js : List J) :
    (levAts L lv : sProp 𝕄) ⊢ MayWait (c : Thread nD τ) (.reg barS) () (owe c js) :=
  MayOwe.of_cut (L := L) (lev := lv) 1 (fun p hp => by rw [Finset.mem_singleton.mp hp, L_tc]; exact Finset.mem_singleton_self _)
    (fun g u hg => by obtain ⟨j, rfl⟩ := owe_pos hg; rw [L_tc]; exact Finset.mem_singleton_self _)
    (fun p hp => by rw [Finset.mem_singleton.mp hp]; dsimp only [lv]; rw [slotOf_bar])
    (fun g u hg => by
      obtain ⟨j, rfl⟩ := owe_pos hg
      have := slotOf_semAt (j, true)
      dsimp only [lv]; rw [show slotOf (recvCell (pr c) j).2 = some (some (j, true)) from this]
      exact (by decide : (1 : ℕ) < 2))

end Cert.KernelIdeal.Att

end
-- ==== Proof.KernelIdeal.Heads.lean ====
/- The heads' steps: what a head's local half and remote half leave in the result's columns and in the row of sums. -/
module

public import proofs.«01_k».proof.Proof.KernelIdeal.Schedule

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## Columns and rows -/

/-- The 128 columns of head h of an array of 2048 columns. -/
def cols {α : Type} (X : S1024x2048.Idx → α) (h : Fin 16) : S1024x128.Idx → α := fun i => X ((headR h).emb i)
/-- The row of head h. -/
def row {α : Type} (X : S16x1024.Idx → α) (h : Fin 16) : S1x1024.Idx → α := fun i => X ((rowR h).emb i)

theorem head_disjoint (h h' : Fin 16) (hh : h ≠ h') : Disjoint (headR h).set (headR h').set :=
  Ring.lead_disjoint (s := S1024x2048) 1 128 (fun h : Fin 16 => ![0, 128 * h.val]) S1024x128.size head_inb (fun _ => rfl) rfl h h' hh
theorem row_disjoint (h h' : Fin 16) (hh : h ≠ h') : Disjoint (rowR h).set (rowR h').set :=
  Ring.lead_disjoint (s := S16x1024) 0 1 (fun h : Fin 16 => ![h.val, 0]) S1x1024.size row_inb (fun _ => (Nat.one_mul _).symm) rfl h h' hh
theorem group_disjoint (g g' : Fin 4) (hg : g ≠ g') : Disjoint (groupR g).set (groupR g').set :=
  Ring.lead_disjoint (s := S1024x2048) 1 512 (fun g : Fin 4 => ![0, 512 * g.val]) S1024x512.size group_inb (fun _ => rfl) rfl g g' hg
theorem group_cover : Finset.univ.biUnion (fun g => (groupR g).set) = Finset.univ :=
  Ring.lead_cover (s := S1024x2048) 1 512 (fun g : Fin 4 => ![0, 512 * g.val]) S1024x512.size group_inb (fun _ => rfl)
    (fun _ a ha => by fin_cases a <;> first | rfl | exact absurd rfl ha) rfl (fun a ha => by fin_cases a <;> first | rfl | exact absurd rfl ha) rfl
theorem head_cover : Finset.univ.biUnion (fun h => (headR h).set) = Finset.univ :=
  Ring.lead_cover (s := S1024x2048) 1 128 (fun h : Fin 16 => ![0, 128 * h.val]) S1024x128.size head_inb (fun _ => rfl)
    (fun _ a ha => by fin_cases a <;> first | rfl | exact absurd rfl ha) rfl (fun a ha => by fin_cases a <;> first | rfl | exact absurd rfl ha) rfl

/-- A head's columns lie among its group's. -/
theorem head_group {g : Fin 4} {h : Fin 16} (hh : h ∈ headsOf g) : (headR h).set ⊆ (groupR g).set := by
  have hg : h.val / 4 = g.val := by
    revert g h; decide
  intro i hi
  rw [Rect.mem_set_unit] at hi ⊢
  intro a
  have h1 := hi a
  fin_cases a
  · exact h1
  · have h2 : 128 * h.val ≤ (i 1).val ∧ (i 1).val < 128 * h.val + 128 := h1
    show 512 * g.val ≤ (i 1).val ∧ (i 1).val < 512 * g.val + 512
    omega

abbrev OBuf (F : FTy → Type) : Type := (oM.view.ty).Contents (Elt F)
abbrev LBuf (F : FTy → Type) : Type := (lM.view.ty).Contents (Elt F)

theorem cols_read (f : OBuf F) (h : Fin 16) : cols (α := F .f32) f h = (oM.access (headR h)).read (Elt F) f := rfl
theorem row_read (f : LBuf F) (h : Fin 16) : row (α := F .f32) f h = (lM.access (rowR h)).read (Elt F) f := rfl

/-- Storing head h's columns of the result: those columns are what was stored, the other heads' are as they were. -/
theorem cols_write (f : OBuf F) (w : S1024x128.Idx → Elt F .f32) (h h' : Fin 16) :
    cols (α := F .f32) ((oM.access (headR h)).write (Elt F) f w Finset.univ) h' = if h' = h then w else cols (α := F .f32) f h' := by
  rw [cols_read]
  split
  · rename_i e; rw [e]
    rw [View.read_write_univ]
  · rename_i e
    rw [cols_read]
    refine View.read_slice_write_slice_of_disjoint (v := oM.view) (Val := Elt F) (headR h') (headR h) f w Finset.univ ?_
    show Disjoint (View.slice (View.whole cc0_stg3_0) (headR h')).set (View.slice (View.whole cc0_stg3_0) (headR h)).set
    rw [View.set_slice_whole, View.set_slice_whole]
    exact head_disjoint h' h e
theorem row_write (f : LBuf F) (w : S1x1024.Idx → Elt F .f32) (h h' : Fin 16) :
    row (α := F .f32) ((lM.access (rowR h)).write (Elt F) f w Finset.univ) h' = if h' = h then w else row (α := F .f32) f h' := by
  rw [row_read]
  split
  · rename_i e; rw [e]
    rw [View.read_write_univ]
  · rename_i e
    rw [row_read]
    refine View.read_slice_write_slice_of_disjoint (v := lM.view) (Val := Elt F) (rowR h') (rowR h) f w Finset.univ ?_
    show Disjoint (View.slice (View.whole cc0_scratch2) (rowR h')).set (View.slice (View.whole cc0_scratch2) (rowR h)).set
    rw [View.set_slice_whole, View.set_slice_whole]
    exact row_disjoint h' h e

/-! ## What a device's heads compute -/

variable (Q K V K' V' : FVec F S1024x2048 .bf16)

/-- A head against this device's keys. -/
def localCol (h : Fin 16) : FVec F S1024x128 .f32 := weighted (cols Q h) (asIs (cols K h)) (asIs (cols V h))
def localSum (h : Fin 16) : FVec F S1x1024 .f32 := localRow (cols Q h) (cols K h)
/-- A head's result. -/
def headOut (h : Fin 16) : FVec F S1024x128 .f32 :=
  combine (localSum Q K h) (localCol Q K V h) (sumExp (cols Q h) (cols K' h)) (weighted (cols Q h) (cols K' h) (cols V' h))

theorem head_lt (i : S1024x2048.Idx) : (i 1).val / 128 < 16 := by
  have : (i 1).val < 2048 := (i 1).isLt
  omega
theorem col_lt (i : S1024x2048.Idx) : (i 1).val % 128 < 128 := Nat.mod_lt _ (by decide)

/-- A device's result: column by column its head's. -/
def out : FVec F S1024x2048 .f32 := fun i =>
  headOut Q K V K' V' ⟨(i 1).val / 128, head_lt i⟩ (fun a => match a with | 0 => i 0 | 1 => ⟨(i 1).val % 128, col_lt i⟩)

theorem eq_out {f : FVec F S1024x2048 .f32} (hf : ∀ h, cols (α := F .f32) f h = headOut Q K V K' V' h) : f = out Q K V K' V' := by
  funext i
  unfold out
  rw [← hf]
  unfold cols
  refine congrArg f (funext fun a => ?_)
  apply Fin.ext
  fin_cases a
  · exact (Nat.zero_add _).symm.trans (congrArg (0 + ·) (Nat.one_mul _).symm) |>.trans rfl
  · show (i 1).val = 128 * ((i 1).val / 128) + 1 * ((i 1).val % 128)
    have := Nat.div_add_mod (i 1).val 128
    omega

/-! ## The steps -/

local notation "𝕄" => MT nD τ sig Unit (Elt F) ℕ UU ℕ

abbrev 𝒱₀ : Variants := Variants.none

abbrev wpB (c : Dev nD) (p : P F) (Kt : PUnit → sProp 𝕄) : sProp 𝕄 := wp frame (wpE (defs₀ (F := F)) 𝒱₀ (c : Thread nD τ) none) Set.univ p Kt

/-- The whole of a buffer at contents f. -/
abbrev qPts (c : Dev nD) (f : FVec F S1024x2048 .bf16) : sProp 𝕄 := qM.view.loc (c : Thread nD τ) ↦{fullShare} f
/-- This device's keys or values, held for reading while copies of them are under way. -/
abbrev keepPts (c : Dev nD) (b : Bool) (f : (srcM b).view.ty.Contents (Elt F)) : sProp 𝕄 := (srcM b).view.loc (c : Thread nD τ) ↦{fullShare.left} f
abbrev oPts (c : Dev nD) (f : OBuf F) : sProp 𝕄 := oM.view.loc (c : Thread nD τ) ↦{fullShare} f
abbrev lPts (c : Dev nD) (f : LBuf F) : sProp 𝕄 := lM.view.loc (c : Thread nD τ) ↦{fullShare} f

/-- The result's columns and the sums' rows of the heads in hs are the local halves. -/
def localState (c : Dev nD) (hs : List (Fin 16)) : sProp 𝕄 :=
  iprop(∃ fo fl, oPts c fo ∗ lPts c fl
    ∗ ⌜∀ h ∈ hs, cols (α := F .f32) fo h = localCol Q K V h ∧ row (α := F .f32) fl h = localSum Q K h⌝)

theorem localHead_run (c : Dev nD) (h : Fin 16) (hs : List (Fin 16)) (k : P F) (Kt : PUnit → sProp 𝕄) :
    iprop((qPts c Q ∗ keepPts c false K ∗ keepPts c true V) ∗ localState Q K V c hs)
      ⊢ iprop(((qPts c Q ∗ keepPts c false K ∗ keepPts c true V) ∗ localState Q K V c (h :: hs) -∗ wpB c k Kt)
        -∗ wpB c (localHead h k) Kt) := by
  unfold localState localHead
  iintro ⟨⟨Hq, Hk, Hv⟩, ⟨%fo, %fl, Ho, Hl, %hf⟩⟩ Hcont
  iapply (wp_load_rect 𝒱₀ (c : Thread nD τ) none Set.univ (m := qM) (r := headR h) (S := Finset.univ) (f := Q) (Finset.subset_univ _)) $$ Hq
  iintro Hq
  iapply (wp_load_rect 𝒱₀ (c : Thread nD τ) none Set.univ (m := srcM false) (r := headR h) (S := Finset.univ) (f := K) (Finset.subset_univ _)) $$ Hk
  iintro Hk
  iapply (wp_load_rect 𝒱₀ (c : Thread nD τ) none Set.univ (m := srcM true) (r := headR h) (S := Finset.univ) (f := V) (Finset.subset_univ _)) $$ Hv
  iintro Hv
  iapply (wp_load_rect 𝒱₀ (c : Thread nD τ) none Set.univ (m := oM) (r := headR h) (S := Finset.univ) (f := fo) (Finset.subset_univ _)) $$ Ho
  iintro Ho
  iapply (wp_store 𝒱₀ (c : Thread nD τ) none Set.univ (m := oM) (r := headR h) (S := Finset.univ) (f := fo) (Finset.subset_univ _)) $$ Ho
  iintro Ho
  iapply (wp_load_rect 𝒱₀ (c : Thread nD τ) none Set.univ (m := lM) (r := rowR h) (S := Finset.univ) (f := fl) (Finset.subset_univ _)) $$ Hl
  iintro Hl
  iapply (wp_store 𝒱₀ (c : Thread nD τ) none Set.univ (m := lM) (r := rowR h) (S := Finset.univ) (f := fl) (Finset.subset_univ _)) $$ Hl
  iintro Hl
  iapply Hcont
  isplitl [Hq Hk Hv]
  · isplitl [Hq]; · iexact Hq
    isplitl [Hk] <;> iassumption
  iexists _, _
  isplitl [Ho]; · iexact Ho
  isplitl [Hl]; · iexact Hl
  ipureintro
  intro h' hh'
  rw [cols_write, row_write]
  by_cases e : h' = h
  · rw [if_pos e, if_pos e, e]; exact ⟨rfl, rfl⟩
  · rw [if_neg e, if_neg e]; exact hf h' (by simpa [e] using hh')

theorem locals_run (c : Dev nD) (ts hs : List (Fin 16)) (k : P F) (Kt : PUnit → sProp 𝕄) :
    iprop((qPts c Q ∗ keepPts c false K ∗ keepPts c true V) ∗ localState Q K V c hs)
      ⊢ iprop(((qPts c Q ∗ keepPts c false K ∗ keepPts c true V) ∗ localState Q K V c (ts.reverse ++ hs) -∗ wpB c k Kt)
        -∗ wpB c (steps localHead ts k) Kt) := by
  induction ts generalizing hs with
  | nil => iintro H Hk; iapply Hk; iexact H
  | cons t ts ih =>
    rw [steps, List.reverse_cons, List.append_assoc]
    iintro H Hk
    iapply (localHead_run Q K V c t hs) $$ H
    iintro H
    iapply (ih (t :: hs)) $$ H
    iexact Hk

/-- The heads in ts are still at their local halves, the others at their results. -/
def remoteState (c : Dev nD) (ts : List (Fin 16)) : sProp 𝕄 :=
  iprop(∃ fo fl, oPts c fo ∗ lPts c fl
    ∗ ⌜∀ h, cols (α := F .f32) fo h = (if h ∈ ts then localCol Q K V h else headOut Q K V K' V' h)
        ∧ row (α := F .f32) fl h = localSum Q K h⌝)

/-- A group of a landing buffer, at contents f. -/
abbrev landPts (c : Dev nD) (b : Bool) (g : Fin 4) (f : (dstM b).view.ty.Contents (Elt F)) : sProp 𝕄 :=
  (dstS b g).view.loc (c : Thread nD τ) ↦[(dstS b g).view.set]{fullShare} f

theorem head_sub (b : Bool) {g : Fin 4} {h : Fin 16} (hh : h ∈ headsOf g) : ((dstM b).access (headR h)).set ⊆ (dstS b g).view.set := by
  have := head_group hh
  cases b
  · show (View.slice (View.whole cc0_scratch0) (headR h)).set ⊆ (View.slice (View.whole cc0_scratch0) (groupR g)).set
    rwa [View.set_slice_whole, View.set_slice_whole]
  · show (View.slice (View.whole cc0_scratch1) (headR h)).set ⊆ (View.slice (View.whole cc0_scratch1) (groupR g)).set
    rwa [View.set_slice_whole, View.set_slice_whole]

/-- What the remote half of a head stores, once the columns and the row hold the local half. -/
theorem stored_eq (h : Fin 16) {fo : OBuf F} {fl : LBuf F} (hl : row (α := F .f32) fl h = localSum Q K h)
    (ho : cols (α := F .f32) fo h = localCol Q K V h) :
    combine ((lM.access (rowR h)).read (Elt F) fl) ((oM.access (headR h)).read (Elt F) fo)
      (sumExp ((qM.access (headR h)).read (Elt F) Q) (((dstM false).access (headR h)).read (Elt F) K'))
      (weighted ((qM.access (headR h)).read (Elt F) Q) (((dstM false).access (headR h)).read (Elt F) K') (((dstM true).access (headR h)).read (Elt F) V'))
      = headOut Q K V K' V' h := by
  unfold headOut
  rw [← hl, ← ho]
  rfl

/-- After head h's remote half its columns are its result, and the other heads' columns are as they were. -/
theorem remote_cols (h : Fin 16) (ts : List (Fin 16)) (hn : h ∉ ts) {fo : OBuf F} {fl : LBuf F}
    (hf : ∀ h', cols (α := F .f32) fo h' = (if h' ∈ h :: ts then localCol Q K V h' else headOut Q K V K' V' h')
        ∧ row (α := F .f32) fl h' = localSum Q K h') (h' : Fin 16) :
    cols (α := F .f32) ((oM.access (headR h)).write (Elt F) fo
      (combine ((lM.access (rowR h)).read (Elt F) fl) ((oM.access (headR h)).read (Elt F) fo)
        (sumExp ((qM.access (headR h)).read (Elt F) Q) (((dstM false).access (headR h)).read (Elt F) K'))
        (weighted ((qM.access (headR h)).read (Elt F) Q) (((dstM false).access (headR h)).read (Elt F) K') (((dstM true).access (headR h)).read (Elt F) V')))
      Finset.univ) h' = (if h' ∈ ts then localCol Q K V h' else headOut Q K V K' V' h')
      ∧ row (α := F .f32) fl h' = localSum Q K h' := by
  refine ⟨?_, (hf h').2⟩
  have h1 := (hf h).1; rw [if_pos List.mem_cons_self] at h1
  rw [cols_write, stored_eq Q K V K' V' h (hf h).2 h1]
  by_cases e : h' = h
  · subst e
    rw [if_pos rfl, if_neg hn]
  · rw [if_neg e, (hf h').1]
    simp only [List.mem_cons, e, false_or]

set_option maxHeartbeats 1000000 in
theorem remoteHead_run (c : Dev nD) (g : Fin 4) (h : Fin 16) (hg : h ∈ headsOf g) (ts : List (Fin 16)) (hn : h ∉ ts) (k : P F) (Kt : PUnit → sProp 𝕄) :
    iprop((qPts c Q ∗ landPts c false g K' ∗ landPts c true g V') ∗ remoteState Q K V K' V' c (h :: ts))
      ⊢ iprop(((qPts c Q ∗ landPts c false g K' ∗ landPts c true g V') ∗ remoteState Q K V K' V' c ts -∗ wpB c k Kt)
        -∗ wpB c (remoteHead h k) Kt) := by
  unfold remoteState remoteHead
  iintro ⟨⟨Hq, Hk, Hv⟩, ⟨%fo, %fl, Ho, Hl, %hf⟩⟩ Hcont
  iapply (wp_load_rect 𝒱₀ (c : Thread nD τ) none Set.univ (m := qM) (r := headR h) (S := Finset.univ) (f := Q) (Finset.subset_univ _)) $$ Hq
  iintro Hq
  iapply (wp_load_rect 𝒱₀ (c : Thread nD τ) none Set.univ (m := dstM false) (r := headR h) (f := K') (head_sub false hg)) $$ Hk
  iintro Hk
  iapply (wp_load_rect 𝒱₀ (c : Thread nD τ) none Set.univ (m := dstM true) (r := headR h) (f := V') (head_sub true hg)) $$ Hv
  iintro Hv
  iapply (wp_load_rect 𝒱₀ (c : Thread nD τ) none Set.univ (m := lM) (r := rowR h) (S := Finset.univ) (f := fl) (Finset.subset_univ _)) $$ Hl
  iintro Hl
  iapply (wp_load_rect 𝒱₀ (c : Thread nD τ) none Set.univ (m := oM) (r := headR h) (S := Finset.univ) (f := fo) (Finset.subset_univ _)) $$ Ho
  iintro Ho
  iapply (wp_load_rect 𝒱₀ (c : Thread nD τ) none Set.univ (m := oM) (r := headR h) (S := Finset.univ) (f := fo) (Finset.subset_univ _)) $$ Ho
  iintro Ho
  iapply (wp_store 𝒱₀ (c : Thread nD τ) none Set.univ (m := oM) (r := headR h) (S := Finset.univ) (f := fo) (Finset.subset_univ _)) $$ Ho
  iintro Ho
  iapply Hcont
  isplitl [Hq Hk Hv]
  · isplitl [Hq]; · iexact Hq
    isplitl [Hk] <;> iassumption
  iexists _, _
  isplitl [Ho]; · iexact Ho
  isplitl [Hl]; · iexact Hl
  ipureintro
  exact remote_cols Q K V K' V' h ts hn hf

theorem remotes_run (c : Dev nD) (g : Fin 4) (ts rest : List (Fin 16)) (hg : ∀ h ∈ ts, h ∈ headsOf g) (hn : (ts ++ rest).Nodup) (k : P F)
    (Kt : PUnit → sProp 𝕄) :
    iprop((qPts c Q ∗ landPts c false g K' ∗ landPts c true g V') ∗ remoteState Q K V K' V' c (ts ++ rest))
      ⊢ iprop(((qPts c Q ∗ landPts c false g K' ∗ landPts c true g V') ∗ remoteState Q K V K' V' c rest -∗ wpB c k Kt)
        -∗ wpB c (steps remoteHead ts k) Kt) := by
  induction ts with
  | nil => iintro H Hk; iapply Hk; iexact H
  | cons t ts ih =>
    rw [List.cons_append, List.nodup_cons] at hn
    rw [steps, List.cons_append]
    iintro H Hk
    iapply (remoteHead_run Q K V K' V' c g t (hg t List.mem_cons_self) (ts ++ rest) hn.1) $$ H
    iintro H
    iapply (ih (fun h hh => hg h (List.mem_cons_of_mem _ hh)) hn.2) $$ H
    iexact Hk

end Cert.KernelIdeal.Att

end
-- ==== Proof.KernelIdeal.Run.lean ====
/- The body's run on a device: the barrier, the copies, the heads against the own keys and values, the heads against the peer's,
   the end of the copies. -/
module

public import proofs.«01_k».proof.Proof.KernelIdeal.Heads

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## Families over the copies -/

theorem at_elim {I : Type} [Fintype I] [DecidableEq I] {Φ : I → sProp 𝕄} (i : I) : bigSep Finset.univ Φ ⊢ Φ i := bigSep_elim (Finset.mem_univ i)

theorem overCopies (Φ : J → sProp 𝕄) : bigSep Finset.univ Φ = bigSepL copies Φ :=
  bigSep_univ_eq_bigSepL copies (by decide) (by decide) Φ
theorem overGroups (Φ : Fin 4 → sProp 𝕄) : bigSep Finset.univ Φ = bigSepL groups Φ :=
  bigSep_univ_eq_bigSepL groups (by decide) (by decide) Φ
theorem overKinds (Φ : Bool → sProp 𝕄) : bigSep Finset.univ Φ = iprop(Φ false ∗ Φ true) :=
  bigSep_univ_eq_bigSepL [false, true] (by decide) (by decide) Φ
/-- Group by group, the keys' copy and the values' copy. -/
theorem byGroup (Φ : J → sProp 𝕄) : bigSep Finset.univ Φ = bigSep Finset.univ fun g => iprop(Φ (g, false) ∗ Φ (g, true)) := by
  rw [bigSep_univ_prod]; exact congrArg _ (funext fun g => overKinds fun b => Φ (g, b))
/-- The keys' copies, and the values' copies. -/
theorem byKind (Φ : J → sProp 𝕄) :
    bigSep Finset.univ Φ = iprop((bigSep Finset.univ fun g => Φ (g, false)) ∗ bigSep Finset.univ fun g => Φ (g, true)) := by
  rw [byGroup, bigSep_sep']
/-- The senders' ends, and the receivers' ends. -/
theorem byEnd (Φ : J × Bool → sProp 𝕄) :
    bigSep Finset.univ Φ = iprop((bigSep Finset.univ fun j => Φ (j, false)) ∗ bigSep Finset.univ fun j => Φ (j, true)) := by
  rw [bigSep_univ_prod, ← bigSep_sep']; exact congrArg _ (funext fun j => overKinds fun b => Φ (j, b))

/-! ## The buffers in groups -/

theorem srcS_set_disjoint (b : Bool) (g g' : Fin 4) (h : g ≠ g') : Disjoint (srcS b g).view.set (srcS b g').view.set := by
  have := group_disjoint g g' h
  cases b
  · show Disjoint (View.slice (View.whole cc0_stg1_0) (groupR g)).set (View.slice (View.whole cc0_stg1_0) (groupR g')).set
    rwa [View.set_slice_whole, View.set_slice_whole]
  · show Disjoint (View.slice (View.whole cc0_stg2_0) (groupR g)).set (View.slice (View.whole cc0_stg2_0) (groupR g')).set
    rwa [View.set_slice_whole, View.set_slice_whole]
theorem dstS_set_disjoint (b : Bool) (g g' : Fin 4) (h : g ≠ g') : Disjoint (dstS b g).view.set (dstS b g').view.set := by
  have := group_disjoint g g' h
  cases b
  · show Disjoint (View.slice (View.whole cc0_scratch0) (groupR g)).set (View.slice (View.whole cc0_scratch0) (groupR g')).set
    rwa [View.set_slice_whole, View.set_slice_whole]
  · show Disjoint (View.slice (View.whole cc0_scratch1) (groupR g)).set (View.slice (View.whole cc0_scratch1) (groupR g')).set
    rwa [View.set_slice_whole, View.set_slice_whole]
theorem srcS_cover (c : Dev nD) (b : Bool) :
    (Finset.univ : Finset (Fin 4)).biUnion (β := Idx ((srcM b).view.loc (c : Thread nD τ))) (fun g => (srcS b g).view.set) = Finset.univ := by
  cases b
  · exact (Finset.biUnion_congr rfl fun g _ => View.set_slice_whole cc0_stg1_0 (groupR g)).trans group_cover
  · exact (Finset.biUnion_congr rfl fun g _ => View.set_slice_whole cc0_stg2_0 (groupR g)).trans group_cover
theorem dstS_cover (c : Dev nD) (b : Bool) :
    (Finset.univ : Finset (Fin 4)).biUnion (β := Idx ((dstM b).view.loc (c : Thread nD τ))) (fun g => (dstS b g).view.set) = Finset.univ := by
  cases b
  · exact (Finset.biUnion_congr rfl fun g _ => View.set_slice_whole cc0_scratch0 (groupR g)).trans group_cover
  · exact (Finset.biUnion_congr rfl fun g _ => View.set_slice_whole cc0_scratch1 (groupR g)).trans group_cover

variable (KV : Contents F)

/-- This device's keys or values, whole. -/
abbrev srcWhole (c : Dev nD) (b : Bool) (f : (srcM b).view.ty.Contents (Elt F)) : sProp 𝕄 := (srcM b).view.loc (c : Thread nD τ) ↦{fullShare} f
/-- A landing buffer, whole. -/
abbrev dstWhole (c : Dev nD) (b : Bool) (f : (dstM b).view.ty.Contents (Elt F)) : sProp 𝕄 := (dstM b).view.loc (c : Thread nD τ) ↦{fullShare} f

theorem src_groups (c : Dev nD) (b : Bool) :
    srcWhole c b (KV c b) = iprop(keepPts c b (KV c b) ∗ bigSep Finset.univ fun g : Fin 4 => srcPts KV c (g, b)) :=
  (pointsTo_share (PosShare.mem_left_op_right fullShare)).1.antisymm (pointsTo_share (PosShare.mem_left_op_right fullShare)).2 |>.trans
    (congrArg (fun X => iprop(keepPts c b (KV c b) ∗ X))
      (Ring.pointsTo_blocks (ℓ := (srcM b).view.loc (c : Thread nD τ)) (fun g => (srcS b g).view.set) (srcS_set_disjoint b) (srcS_cover c b) (KV c b)))

theorem dst_groups (c : Dev nD) (b : Bool) (f : (dstM b).view.ty.Contents (Elt F)) :
    dstWhole c b f = bigSep Finset.univ fun g : Fin 4 => landPts c b g f :=
  Ring.pointsTo_blocks (ℓ := (dstM b).view.loc (c : Thread nD τ)) (fun g => (dstS b g).view.set) (dstS_set_disjoint b) (dstS_cover c b) f

/-! ## What a device holds when the body starts, and when it ends -/

variable (K : GSem nD τ sig → ℕ)

/-- The protocol's invariants that device c uses, and the rounds it knows to be reached. -/
def known (c : Dev nD) : sProp 𝕄 :=
  iprop(cellInv ER (talk KV) (K (barCell c)) (barCell c) ∗ cellInv ER (talk KV) (K (barCell (pr c))) (barCell (pr c))
    ∗ (bigSep Finset.univ fun s : J × Bool => cellInv ER (talk KV) (K (cellAt c s)) (cellAt c s))
    ∗ (bigSep Finset.univ fun j : J => cellInv ER (talk KV) (K (recvCell (pr c) j)) (recvCell (pr c) j))
    ∗ reached ER (barCell (pr c)) 0)
instance known_persistent (c : Dev nD) : BI.Persistent (known KV K c) := by unfold known; infer_instance

def opens (c : Dev nD) : sProp 𝕄 := bigSep Finset.univ fun s : J × Bool => reached ER (cellAt c s) 0
instance opens_persistent (c : Dev nD) : BI.Persistent (opens c : sProp 𝕄) := by unfold opens; infer_instance

/-- The duties' tokens that device c pays with. -/
def tokens (c : Dev nD) : sProp 𝕄 :=
  iprop(dutyTok ER (barCell (pr c)) 0 () ∗ bigSep Finset.univ fun j : J => iprop(dutyTok ER (sendCell c j) 0 () ∗ dutyTok ER (recvCell (pr c) j) 0 ()))
/-- The units that it waits with. -/
def credits (c : Dev nD) : sProp 𝕄 :=
  iprop(cred (tallyAt (barCell c) () 1) ∗ bigSep Finset.univ fun j : J => cred (tallyAt (recvCell c j) () N))

variable (Q : Dev nD → FVec F S1024x2048 .bf16)

/-- What device c's result is: a function of its own blocks and its peer's. -/
def outAt (c : Dev nD) : FVec F S1024x2048 .f32 := out (Q c) (KV c false) (KV c true) (KV (pr c) false) (KV (pr c) true)

def bodyPre (c : Dev nD) (W : Waits sig Unit) : sProp 𝕄 :=
  iprop(known KV K c ∗ opens c ∗ levAts L lv ∗ atPos ER (barCell c) 0 ∅ 0
    ∗ (bigSep Finset.univ fun s : J × Bool => atPos ER (cellAt c s) 0 ∅ 0) ∗ tokens c ∗ credits c
    ∗ qPts c (Q c) ∗ (srcWhole c false (KV c false) ∗ srcWhole c true (KV c true)) ∗ (∃ f, oPts c f) ∗ (∃ f, lPts c f)
    ∗ ((∃ f, dstWhole c false f) ∗ ∃ f, dstWhole c true f) ∗ owes (c : Thread nD τ) (O₀ c) W)

def bodyPost (c : Dev nD) : sProp 𝕄 :=
  iprop(semVal (barCell c) 0 ∗ (bigSep Finset.univ fun s : J × Bool => semVal (cellAt c s) 0)
    ∗ qPts c (Q c) ∗ (srcWhole c false (KV c false) ∗ srcWhole c true (KV c true)) ∗ oPts c (outAt KV Q c) ∗ (∃ f, lPts c f)
    ∗ ((∃ f, dstWhole c false f) ∗ ∃ f, dstWhole c true f) ∗ ∃ W, owes (c : Thread nD τ) (0 : CellTallies nD τ sig Unit) W)

theorem known_own (c : Dev nD) (s : J × Bool) : known KV K c ⊢ cellInv ER (talk KV) (K (cellAt c s)) (cellAt c s) := by
  unfold known; iintro ⟨-, -, H, -, -⟩; iapply (at_elim s) $$ H
theorem known_peer (c : Dev nD) (j : J) : known KV K c ⊢ cellInv ER (talk KV) (K (recvCell (pr c) j)) (recvCell (pr c) j) := by
  unfold known; iintro ⟨-, -, -, H, -⟩; iapply (at_elim j) $$ H
theorem opens_at (c : Dev nD) (s : J × Bool) : (opens c : sProp 𝕄) ⊢ reached ER (cellAt c s) 0 := by
  unfold opens; exact at_elim s

/-! ## The copies -/

/-- What starting a copy takes. -/
def toSend (c : Dev nD) (j : J) : sProp 𝕄 :=
  iprop(srcPts KV c j ∗ ((∃ f, dstPts (pr c) j f) ∗ reached ER (recvCell (pr c) j) 0) ∗ (dutyTok ER (sendCell c j) 0 () ∗ dutyTok ER (recvCell (pr c) j) 0 ()))

theorem send_run (c : Dev nD) (j : J) (js : List J) (W : Waits sig Unit) (k : P F) (Kt : PUnit → sProp 𝕄) :
    iprop(known KV K c ∗ opens c ∗ toSend KV c j ∗ owes (c : Thread nD τ) (owe c (j :: js)) W)
      ⊢ iprop((cred (tallyAt (sendCell c j) () N) ∗ owes (c : Thread nD τ) (owe c js) W -∗ wpB c k Kt)
        -∗ wpB c (sendOp c j.2 j.1 k) Kt) := by
  unfold sendOp toSend
  rw [devN_eq]
  unfold sendTo
  iintro ⟨#HK, #Hop, ⟨Hsrc, ⟨⟨%fd, Hdst⟩, #HrP⟩, HtS, HtR⟩, HO⟩ Hk
  ihave #HIs := (known_own KV K c (j, false)) $$ HK
  ihave #HIr := (known_peer KV K c j) $$ HK
  ihave #Hrs := (opens_at c (j, false)) $$ Hop
  iapply (Rounds.wp_send_pointsTo 𝒱₀ ER (talk KV) (c : Thread nD τ) none (c' := (pr c : Thread nD τ)) (src := srcS j.2 j.1) (dst := dstS j.2 j.1)
      (sS := .dma (sendS j.2 j.1)) (sem := .dma (recvS j.2 j.1)) (q := fullShare.right) (fs := KV c j.2) (κ₁ := K (sendCell c j)) (κ₂ := K (recvCell (pr c) j))
      (r₁ := 0) (r₂ := 0) (d₁ := ()) (d₂ := ()) (fd := fd)
      (by rw [duties_at KV c (j, false)]; exact Finset.mem_singleton_self _) (by rw [duties_at KV (pr c) (j, true)]; exact Finset.mem_singleton_self _)
      () () N (dst_amount j.2 j.1) (amount_at KV c (j, false)) (amount_at KV (pr c) (j, true)) (owe c js) rfl (W := W)
      (by rw [payload_at KV c (j, false)]; exact BI.Entails.refl _)
      (by rw [payload_at KV (pr c) (j, true)]; unfold endPay; dsimp only; rw [pr_pr]
          exact Entails.of_eq (pointsTo_congr (landing j.2 j.1 fd (KV c j.2))))) $$ [Hsrc Hdst HO HtS HtR]
  · isplitr; · iexact HIs
    isplitr; · iexact HIr
    isplitl [Hsrc]; · iexact Hsrc
    isplitl [Hdst]; · iexact Hdst
    isplitl [HO]; · iexact HO
    isplitl [HtS]; · iexact HtS
    isplitr; · iexact Hrs
    isplitl [HtR]; · iexact HtR
    iexact HrP
  iexact Hk

theorem sends_run (c : Dev nD) (js : List J) (W : Waits sig Unit) (k : P F) (Kt : PUnit → sProp 𝕄) :
    iprop(known KV K c ∗ opens c ∗ bigSepL js (toSend KV c) ∗ owes (c : Thread nD τ) (owe c js) W)
      ⊢ iprop(((bigSepL js fun j => cred (tallyAt (sendCell c j) () N)) ∗ owes (c : Thread nD τ) 0 W -∗ wpB c k Kt)
        -∗ wpB c (steps (fun j => sendOp c j.2 j.1) js k) Kt) := by
  induction js generalizing k with
  | nil =>
    iintro ⟨#HK, #Hop, He, HO⟩ Hk; iapply Hk
    isplitl [He]; · iexact He
    iexact HO
  | cons j js ih =>
    rw [bigSepL_cons', bigSepL_cons', steps]
    iintro ⟨#HK, #Hop, ⟨Hj, Hjs⟩, HO⟩ Hk
    iapply (send_run KV K c j js W) $$ [Hj HO]
    · isplitr; · iexact HK
      isplitr; · iexact Hop
      isplitl [Hj] <;> iassumption
    iintro ⟨Hc, HO⟩
    iapply (ih k) $$ [Hjs HO]
    · isplitr; · iexact HK
      isplitr; · iexact Hop
      isplitl [Hjs] <;> iassumption
    iintro ⟨Hcs, HO⟩
    iapply Hk
    isplitl [Hc Hcs]
    · isplitl [Hc] <;> iassumption
    iexact HO

/-! ## The waits for the copies -/

/-- What waiting at an end of a copy takes. -/
def await (c : Dev nD) (s : J × Bool) : sProp 𝕄 := iprop(cred (tallyAt (cellAt c s) () N) ∗ atPos ER (cellAt c s) 0 ∅ 0)
/-- What it gives. -/
def came (c : Dev nD) (s : J × Bool) : sProp 𝕄 := iprop(atPos ER (cellAt c s) (0 + 1) ∅ 0 ∗ endPay KV c s)
/-- The device owes nothing. -/
def idle (c : Dev nD) : sProp 𝕄 := iprop(∃ W, owes (c : Thread nD τ) (0 : CellTallies nD τ sig Unit) W)

theorem recvWait_run (c : Dev nD) (b : Bool) (g : Fin 4) (k : P F) (Kt : PUnit → sProp 𝕄) :
    iprop(known KV K c ∗ await c ((g, b), true) ∗ idle c)
      ⊢ iprop((came KV c ((g, b), true) ∗ idle c -∗ wpB c k Kt) -∗ wpB c (recvWait b g k) Kt) := by
  unfold recvWait await came idle
  iintro ⟨#HK, ⟨Hc, Hat⟩, ⟨%W, HO⟩⟩ Hk
  ihave #HI := (known_own KV K c ((g, b), true)) $$ HK
  iapply (Rounds.wp_wait_rest_token 𝒱₀ ER (talk KV) (c : Thread nD τ) none (κ := K (cellAt c ((g, b), true)))
      (wpE_waitDma2_eq (src := srcS b g) (dst := dstS b g) 𝒱₀ (c : Thread nD τ) none Set.univ) (Set.mem_univ _) () (O := 0) (W := W) (R := 0) (m := 0) (T := ∅)
      ((Nat.zero_add _).trans ((dst_amount b g).trans (expect_at KV c ((g, b), true)).symm))) $$ [Hc HO Hat]
  · isplitr; · iexact HI
    isplitl [Hc]; · rw [dst_amount b g]; iexact Hc
    isplitl [HO]; · iexact HO
    isplitr; · rw [MayWait_zero]; iempintro
    iexact Hat
  iintro ⟨HO, Hat, -, Hpay⟩
  ihave Hp := (Entails.of_eq (rest_at KV c ((g, b), true))) $$ Hpay
  iapply Hk
  isplitl [Hat Hp]
  · isplitl [Hat] <;> iassumption
  iexists _; iexact HO

theorem sendWait_run (c : Dev nD) (b : Bool) (g : Fin 4) (k : P F) (Kt : PUnit → sProp 𝕄) :
    iprop(known KV K c ∗ await c ((g, b), false) ∗ idle c)
      ⊢ iprop((came KV c ((g, b), false) ∗ idle c -∗ wpB c k Kt) -∗ wpB c (sendWait b g k) Kt) := by
  unfold sendWait await came idle
  iintro ⟨#HK, ⟨Hc, Hat⟩, ⟨%W, HO⟩⟩ Hk
  ihave #HI := (known_own KV K c ((g, b), false)) $$ HK
  iapply (Rounds.wp_wait_rest_token 𝒱₀ ER (talk KV) (c : Thread nD τ) none (κ := K (cellAt c ((g, b), false)))
      (wpE_waitDma2_eq (src := dstS b g) (dst := srcS b g) 𝒱₀ (c : Thread nD τ) none Set.univ) (Set.mem_univ _) () (O := 0) (W := W) (R := 0) (m := 0) (T := ∅)
      ((Nat.zero_add _).trans ((src_amount b g).trans (expect_at KV c ((g, b), false)).symm))) $$ [Hc HO Hat]
  · isplitr; · iexact HI
    isplitl [Hc]; · rw [src_amount b g]; iexact Hc
    isplitl [HO]; · iexact HO
    isplitr; · rw [MayWait_zero]; iempintro
    iexact Hat
  iintro ⟨HO, Hat, -, Hpay⟩
  ihave Hp := (Entails.of_eq (rest_at KV c ((g, b), false))) $$ Hpay
  iapply Hk
  isplitl [Hat Hp]
  · isplitl [Hat] <;> iassumption
  iexists _; iexact HO

theorem drains_run (c : Dev nD) (js : List J) (k : P F) (Kt : PUnit → sProp 𝕄) :
    iprop(known KV K c ∗ (bigSepL js fun j => await c (j, false)) ∗ idle c)
      ⊢ iprop(((bigSepL js fun j => came KV c (j, false)) ∗ idle c -∗ wpB c k Kt)
        -∗ wpB c (steps (fun j => sendWait j.2 j.1) js k) Kt) := by
  induction js generalizing k with
  | nil =>
    iintro ⟨#HK, He, HO⟩ Hk; iapply Hk
    isplitl [He]; · iexact He
    iexact HO
  | cons j js ih =>
    rw [bigSepL_cons', bigSepL_cons', steps]
    iintro ⟨#HK, ⟨Hj, Hjs⟩, HO⟩ Hk
    iapply (sendWait_run KV K c j.2 j.1) $$ [Hj HO]
    · isplitr; · iexact HK
      isplitl [Hj] <;> iassumption
    iintro ⟨Hc, HO⟩
    iapply (ih k) $$ [Hjs HO]
    · isplitr; · iexact HK
      isplitl [Hjs] <;> iassumption
    iintro ⟨Hcs, HO⟩
    iapply Hk
    isplitl [Hc Hcs]
    · isplitl [Hc] <;> iassumption
    iexact HO

/-- The heads of a list of groups. -/
abbrev headsOfAll : List (Fin 4) → List (Fin 16)
  | [] => []
  | g :: gs => headsOf g ++ headsOfAll gs

/-- The state of the result and the sums while the heads in ts are still to be finished. -/
abbrev remoteAt (c : Dev nD) (ts : List (Fin 16)) : sProp 𝕄 :=
  remoteState (Q c) (KV c false) (KV c true) (KV (pr c) false) (KV (pr c) true) c ts

theorem groups_run (c : Dev nD) (gs : List (Fin 4)) (hn : (headsOfAll gs).Nodup) (k : P F) (Kt : PUnit → sProp 𝕄) :
    iprop(known KV K c ∗ (bigSepL gs fun g => iprop(await c ((g, false), true) ∗ await c ((g, true), true))) ∗ idle c
        ∗ qPts c (Q c) ∗ remoteAt KV Q c (headsOfAll gs))
      ⊢ iprop(((bigSepL gs fun g => iprop(came KV c ((g, false), true) ∗ came KV c ((g, true), true))) ∗ idle c
          ∗ qPts c (Q c) ∗ remoteAt KV Q c [] -∗ wpB c k Kt)
        -∗ wpB c (steps group gs k) Kt) := by
  induction gs generalizing k with
  | nil =>
    iintro ⟨#HK, He, HO, Hq, Hr⟩ Hk; iapply Hk
    isplitl [He]; · iexact He
    isplitl [HO]; · iexact HO
    isplitl [Hq] <;> iassumption
  | cons g gs ih =>
    rw [bigSepL_cons', bigSepL_cons', steps, group]
    iintro ⟨#HK, ⟨⟨Ha, Hb⟩, Hgs⟩, HO, Hq, Hr⟩ Hk
    iapply (recvWait_run KV K c false g) $$ [Ha HO]
    · isplitr; · iexact HK
      isplitl [Ha] <;> iassumption
    iintro ⟨Ha, HO⟩
    iapply (recvWait_run KV K c true g) $$ [Hb HO]
    · isplitr; · iexact HK
      isplitl [Hb] <;> iassumption
    iintro ⟨Hb, HO⟩
    unfold came endPay
    icases Ha with ⟨HatA, Ha⟩
    icases Hb with ⟨HatB, Hb⟩
    iapply (remotes_run (Q c) (KV c false) (KV c true) (KV (pr c) false) (KV (pr c) true) c g (headsOf g) (headsOfAll gs) (fun _ h => h) hn) $$ [Ha Hb Hq Hr]
    · isplitl [Ha Hb Hq]
      · isplitl [Hq]; · iexact Hq
        isplitl [Ha]; · iexact Ha
        iexact Hb
      iexact Hr
    iintro ⟨⟨Hq, Ha, Hb⟩, Hr⟩
    iapply (ih (List.nodup_append.mp hn).2.1 k) $$ [Hgs HO Hq Hr]
    · isplitr; · iexact HK
      isplitl [Hgs]; · iexact Hgs
      isplitl [HO]; · iexact HO
      isplitl [Hq] <;> iassumption
    iintro ⟨Hgs, Hrest⟩
    iapply Hk
    isplitr [Hrest]
    · isplitr [Hgs]
      · isplitl [HatA Ha]
        · isplitl [HatA]; · iexact HatA
          iexact Ha
        isplitl [HatB]; · iexact HatB
        iexact Hb
      unfold came endPay
      iexact Hgs
    iexact Hrest

end Cert.KernelIdeal.Att

end
-- ==== Proof.KernelIdeal.BodyRun.lean ====
/- The whole body on a device, from what it holds at the start to what it holds at the end. -/
module

public import proofs.«01_k».proof.Proof.KernelIdeal.Run

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (KV : Contents F) (K : GSem nD τ sig → ℕ) (Q : Dev nD → FVec F S1024x2048 .bf16)

/-- The landing buffers, cut in groups, are what device c pays to its peer's barrier. -/
theorem barPay_intro (c : Dev nD) (f : (dstM false).view.ty.Contents (Elt F)) (f' : (dstM true).view.ty.Contents (Elt F)) :
    iprop(opens c ∗ dstWhole c false f ∗ dstWhole c true f') ⊢ (barPay (pr c) : sProp 𝕄) := by
  have e0 : ∀ g, (landPts c false g f : sProp 𝕄) ⊢ iprop(∃ f, dstPts c (g, false) f) := fun g => by iintro H; iexists f; iexact H
  have e1 : ∀ g, (landPts c true g f' : sProp 𝕄) ⊢ iprop(∃ f, dstPts c (g, true) f) := fun g => by iintro H; iexists f'; iexact H
  have m0 : (bigSep Finset.univ fun g => landPts c false g f : sProp 𝕄) ⊢ bigSep Finset.univ fun g => iprop(∃ f, dstPts c (g, false) f) :=
    bigSep_mono fun g _ => e0 g
  have m1 : (bigSep Finset.univ fun g => landPts c true g f' : sProp 𝕄) ⊢ bigSep Finset.univ fun g => iprop(∃ f, dstPts c (g, true) f) :=
    bigSep_mono fun g _ => e1 g
  have e2 : (opens c : sProp 𝕄) ⊢ bigSep Finset.univ fun j : J => reached ER (recvCell c j) 0 := by
    unfold opens; rw [byEnd]; iintro ⟨-, H⟩; iexact H
  unfold barPay
  rw [pr_pr, bigSep_sep', byKind fun j => iprop(∃ f, dstPts c j f), dst_groups, dst_groups]
  iintro ⟨Ho, H0, H1⟩
  isplitl [H0 H1]
  · isplitl [H0]
    · iapply m0; iexact H0
    · iapply m1; iexact H1
  iapply e2; iexact Ho

/-- What starting all copies takes. -/
theorem toSend_intro (c : Dev nD) :
    iprop((bigSep Finset.univ fun j : J => srcPts KV c j) ∗ barPay c
      ∗ bigSep Finset.univ fun j : J => iprop(dutyTok ER (sendCell c j) 0 () ∗ dutyTok ER (recvCell (pr c) j) 0 ())) ⊢ bigSepL copies (toSend KV c) := by
  unfold barPay
  rw [← bigSep_sep', ← bigSep_sep', overCopies]
  exact .rfl

/-- The two halves of each source, the lent one in groups. -/
theorem src_split (c : Dev nD) :
    iprop(srcWhole c false (KV c false) ∗ srcWhole c true (KV c true))
      ⊢ iprop((keepPts c false (KV c false) ∗ keepPts c true (KV c true)) ∗ bigSep Finset.univ fun j : J => srcPts KV c j) := by
  rw [src_groups, src_groups, byKind]
  iintro ⟨⟨H0, G0⟩, H1, G1⟩
  isplitl [H0 H1]
  · isplitl [H0] <;> iassumption
  isplitl [G0]; · iexact G0
  iexact G1
theorem src_join (c : Dev nD) :
    iprop((keepPts c false (KV c false) ∗ keepPts c true (KV c true)) ∗ bigSep Finset.univ fun j : J => srcPts KV c j)
      ⊢ iprop(srcWhole c false (KV c false) ∗ srcWhole c true (KV c true)) := by
  rw [src_groups, src_groups, byKind]
  iintro ⟨⟨H0, H1⟩, G0, G1⟩
  isplitl [H0 G0]
  · isplitl [H0]; · iexact H0
    iexact G0
  isplitl [H1]; · iexact H1
  iexact G1
/-- The groups that came, joined to whole buffers. -/
theorem dst_join (c : Dev nD) :
    (bigSep Finset.univ fun j : J => endPay KV c (j, true)) ⊢ iprop((∃ f, dstWhole c false f) ∗ ∃ f, dstWhole c true f) := by
  unfold endPay
  rw [byKind]
  iintro ⟨H0, H1⟩
  isplitl [H0]
  · iexists (toDst false (KV (pr c) false)); rw [dst_groups]; iexact H0
  · iexists (toDst true (KV (pr c) true)); rw [dst_groups]; iexact H1

/-- Every cell is closed: its counter is back, at zero. -/
theorem close_bar (c : Dev nD) : iprop(known KV K c ∗ atPos ER (barCell c) (0 + 1) ∅ 0) ⊢ (|={Set.univ}=> semVal (barCell c) 0 : sProp 𝕄) := by
  unfold known
  iintro ⟨⟨HI, -, -, -, -⟩, Hat⟩
  iapply (Rounds.cell_close ER (talk KV) (Set.mem_univ (K (barCell c))) id (duties_later KV (barCell c)))
  isplitl [HI] <;> iassumption
theorem close_at (c : Dev nD) (s : J × Bool) :
    iprop(known KV K c ∗ atPos ER (cellAt c s) (0 + 1) ∅ 0) ⊢ (|={Set.univ}=> semVal (cellAt c s) 0 : sProp 𝕄) := by
  iintro ⟨HK, Hat⟩
  ihave HI := (known_own KV K c s) $$ HK
  iapply (Rounds.cell_close ER (talk KV) (Set.mem_univ (K (cellAt c s))) id (duties_later KV (cellAt c s)))
  isplitl [HI] <;> iassumption
theorem close_all (c : Dev nD) :
    iprop(known KV K c ∗ bigSep Finset.univ fun s : J × Bool => atPos ER (cellAt c s) (0 + 1) ∅ 0)
      ⊢ (|={Set.univ}=> bigSep Finset.univ fun s : J × Bool => semVal (cellAt c s) 0 : sProp 𝕄) :=
  (bigSep_with_persistent fun s _ => close_at KV K c s).trans (bigSep_fupd _ _)

/-- After the heads' local halves every head is at its local half. -/
theorem remote_start (c : Dev nD) :
    localState (Q c) (KV c false) (KV c true) c (heads.reverse ++ []) ⊢ remoteAt KV Q c (headsOfAll groups) := by
  unfold localState remoteAt remoteState
  iintro ⟨%fo, %fl, Ho, Hl, %hf⟩
  iexists fo, fl
  isplitl [Ho]; · iexact Ho
  isplitl [Hl]; · iexact Hl
  ipureintro
  intro h
  rw [if_pos ((by decide : ∀ h : Fin 16, h ∈ headsOfAll groups) h)]
  exact hf h ((by decide : ∀ h : Fin 16, h ∈ heads.reverse ++ []) h)

/-- When no head is left the result is what it should be. -/
theorem remote_end (c : Dev nD) : remoteAt KV Q c [] ⊢ iprop(oPts c (outAt KV Q c) ∗ ∃ f, lPts c f) := by
  unfold remoteAt remoteState
  iintro ⟨%fo, %fl, Ho, Hl, %hf⟩
  have e : fo = outAt KV Q c := eq_out _ _ _ _ _ fun h => by rw [(hf h).1, if_neg List.not_mem_nil]
  rw [e]
  isplitl [Ho]; · iexact Ho
  iexists fl; iexact Hl

set_option maxHeartbeats 1000000 in
theorem body_run (c : Dev nD) (W : Waits sig Unit) (Kt : PUnit → sProp 𝕄) :
    iprop(bodyPre KV K Q c W ∗ (bodyPost KV Q c -∗ Kt ⟨⟩)) ⊢ wpB c (bodyS (F := F)) Kt := by
  unfold bodyS
  unfold wpB
  rw [wp_deviceId]
  dsimp only
  rw [dev1_eq]
  unfold bodyPre tokens credits O₀
  iintro ⟨⟨#HK, #Hop, #Hlev, HatB, Hat, ⟨HtB, Htok⟩, ⟨HcB, Hcr⟩, Hq, Hsrc, ⟨%fo, Ho⟩, ⟨%fl, Hl⟩, ⟨⟨%f0, H0⟩, ⟨%f1, H1⟩⟩, HO⟩, Hk⟩
  ihave #HIb := (show known KV K c ⊢ cellInv ER (talk KV) (K (barCell c)) (barCell c) from by unfold known; iintro ⟨H, -⟩; iexact H) $$ HK
  ihave #HIbP := (show known KV K c ⊢ cellInv ER (talk KV) (K (barCell (pr c))) (barCell (pr c)) from by unfold known; iintro ⟨-, H, -⟩; iexact H) $$ HK
  ihave #HrP := (show known KV K c ⊢ reached ER (barCell (pr c)) 0 from by unfold known; iintro ⟨-, -, -, -, H⟩; iexact H) $$ HK
  iapply (Rounds.wp_signal 𝒱₀ ER (talk KV) (c : Thread nD τ) none (dst := (pr c : Thread nD τ)) (sem := barS) (r := 0) (d := ()) (κ := K (barCell (pr c)))
      (by rw [duties_bar]; exact Finset.mem_singleton_self _) (amount_bar KV (pr c)) () (owe c copies) rfl) $$ [HO HtB H0 H1]
  · isplitr; · iexact HIbP
    isplitl [HO]; · iexact HO
    isplitl [HtB]; · iexact HtB
    isplitl [H0 H1]
    · rw [payload_bar]
      iapply (barPay_intro c f0 f1)
      isplitr; · iexact Hop
      isplitl [H0] <;> iassumption
    iexact HrP
  iintro HO
  iapply (Rounds.wp_wait_rest_token 𝒱₀ ER (talk KV) (c : Thread nD τ) none (κ := K (barCell c))
      (wpE_semWait_eq 𝒱₀ (c : Thread nD τ) none Set.univ) (Set.mem_univ _) () (O := owe c copies) (W := W) (R := 0) (m := 0) (T := ∅)
      ((Nat.zero_add 1).trans (expect_bar KV c).symm)) $$ [HcB HO HatB]
  · isplitr; · iexact HIb
    isplitl [HcB]; · iexact HcB
    isplitl [HO]; · iexact HO
    isplitr; · iapply (mayWait_bar c copies); iexact Hlev
    iexact HatB
  iintro ⟨HO, HatB, -, Hpay⟩
  ihave Hpay := (Entails.of_eq (rest_bar KV c)) $$ Hpay
  ihave Hsrc := (src_split KV c) $$ Hsrc
  icases Hsrc with ⟨⟨Hk0, Hk1⟩, Hlent⟩
  ihave Hsend := (toSend_intro KV c) $$ [Hlent Hpay Htok]
  · isplitl [Hlent]; · iexact Hlent
    isplitl [Hpay] <;> iassumption
  iapply (sends_run KV K c copies) $$ [Hsend HO]
  · isplitr; · iexact HK
    isplitr; · iexact Hop
    isplitl [Hsend]; · iexact Hsend
    iexact HO
  iintro ⟨Hcs, HO⟩
  iapply (locals_run (Q c) (KV c false) (KV c true) c heads []) $$ [Hq Hk0 Hk1 Ho Hl]
  · isplitl [Hq Hk0 Hk1]
    · isplitl [Hq]; · iexact Hq
      isplitl [Hk0] <;> iassumption
    unfold localState
    iexists fo, fl
    isplitl [Ho]; · iexact Ho
    isplitl [Hl]; · iexact Hl
    ipureintro
    exact fun h hh => absurd hh List.not_mem_nil
  iintro ⟨⟨Hq, Hk0, Hk1⟩, Hst⟩
  ihave Hst := (remote_start KV Q c) $$ Hst
  ihave Hat := (Entails.of_eq (byEnd fun s => atPos ER (cellAt c s) 0 ∅ 0)) $$ Hat
  icases Hat with ⟨HatS, HatR⟩
  iapply (groups_run KV K Q c groups (by decide)) $$ [Hcr HatR HO Hq Hst]
  · isplitr; · iexact HK
    isplitl [Hcr HatR]
    · rw [← overGroups fun g => iprop(await c ((g, false), true) ∗ await c ((g, true), true)), ← byGroup fun j => await c (j, true)]
      unfold await
      rw [bigSep_sep']
      isplitl [Hcr] <;> iassumption
    isplitl [HO]; · unfold idle; iexists _; iexact HO
    isplitl [Hq] <;> iassumption
  iintro ⟨Hgs, HO, Hq, Hst⟩
  ihave Hst := (remote_end KV Q c) $$ Hst
  icases Hst with ⟨Ho, Hl⟩
  iapply (drains_run KV K c copies) $$ [Hcs HatS HO]
  · isplitr; · iexact HK
    isplitl [Hcs HatS]
    · rw [← overCopies fun j => await c (j, false)]
      unfold await
      rw [bigSep_sep', overCopies fun j => cred (tallyAt (cellAt c (j, false)) () N)]
      isplitl [Hcs] <;> iassumption
    iexact HO
  iintro ⟨Hds, HO⟩
  ihave Hgs := (Entails.of_eq ((overGroups fun g => iprop(came KV c ((g, false), true) ∗ came KV c ((g, true), true))).symm.trans
    (byGroup fun j => came KV c (j, true)).symm)) $$ Hgs
  ihave Hds := (Entails.of_eq (overCopies fun j => came KV c (j, false)).symm) $$ Hds
  unfold came
  ihave Hgs := (Entails.of_eq (bigSep_sep' Finset.univ (fun j : J => (atPos ER (cellAt c (j, true)) (0 + 1) ∅ 0 : sProp 𝕄)) fun j => endPay KV c (j, true))) $$ Hgs
  ihave Hds := (Entails.of_eq (bigSep_sep' Finset.univ (fun j : J => (atPos ER (cellAt c (j, false)) (0 + 1) ∅ 0 : sProp 𝕄)) fun j => endPay KV c (j, false))) $$ Hds
  icases Hgs with ⟨HatR, Hland⟩
  icases Hds with ⟨HatS, Hlent⟩
  ihave Hland := (dst_join KV c) $$ Hland
  ihave Hsrc := (src_join KV c) $$ [Hk0 Hk1 Hlent]
  · isplitl [Hk0 Hk1]
    · isplitl [Hk0] <;> iassumption
    unfold endPay
    iexact Hlent
  unfold wpB
  rw [wp_ret]
  imod (close_bar KV K c) $$ [HatB] with HvB
  · isplitr; · iexact HK
    iexact HatB
  imod (close_all KV K c) $$ [HatS HatR] with Hvs
  · isplitr; · iexact HK
    rw [byEnd]
    isplitl [HatS] <;> iassumption
  imodintro
  iapply Hk
  unfold bodyPost
  isplitl [HvB]; · iexact HvB
  isplitl [Hvs]; · iexact Hvs
  isplitl [Hq]; · iexact Hq
  isplitl [Hsrc]; · iexact Hsrc
  isplitl [Ho]; · iexact Ho
  isplitl [Hl]; · iexact Hl
  isplitl [Hland]; · iexact Hland
  unfold idle
  iexact HO

end Cert.KernelIdeal.Att

end
-- ==== Proof.KernelIdeal.Region.lean ====
/- The one region of the program as a segment of its run: what the arrays hold, what the body is given and gives back. -/
module

public import proofs.«01_k».proof.Proof.KernelIdeal.BodyRun
public import Idealize.ShloMosaic.Lib.Pipeline.RegionTalk
public import Idealize.ShloMosaic.Lib.Pipeline.FrameBody
public import Idealize.ShloMosaic.Lib.Pipeline.FrameSuffix
public import Idealize.ShloMosaic.Lib.Pipeline.ValueKit

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ

variable (m : (ℓ : Loc nD τ sig) → Buf (Elt F) ℓ)

/-! ## The contents of the buffers -/

/-- At launch, and when the region is entered. -/
def V₀ (c : Dev nD) : Valuation τ sig (Elt F) := fun b => m (c, b)
def V₁ (c : Dev nD) : Valuation τ sig (Elt F) := StableHlo.after hostOps0 (V₀ m c)

/-- The queries, keys and values of a device, a row for a position. -/
def qOf (c : Dev nD) : FVec F S1024x2048 .bf16 := V₁ m c (Proc.devRef .tc main_v1)
def kvOf : Contents F := fun c b => match b with
  | false => V₁ m c (Proc.devRef .tc main_v2)
  | true => V₁ m c (Proc.devRef .tc main_v3)

/-- The result of a device. -/
def outOf (c : Dev nD) : FVec F S1024x2048 .f32 := outAt (kvOf m) (qOf m) c

/-- A window's array when the region is entered. -/
def arrOf (c : Dev nD) (w : Fin cfg0.W) : Buf (Elt F) ((cfg0.win w).arr.view.loc (c : Thread nD τ)) :=
  V₁ m c (Proc.devRef .tc (Pipeline.arrRef spec0 w))

/-- A window's block is its whole array. -/
def blkOf (c : Dev nD) (w : Fin cfg0.W) (t : Fin cfg0.N) : ((cfg0.win w).xblock (cfg0.grid.coords t)).Idx → Elt F (cfg0.win w).elt :=
  ((cfg0.win w).blk t).view.read (Elt F) (arrOf m c w)

theorem blk_q (c : Dev nD) : blkOf m c 0 t0_0 = qOf m c := by
  funext x; exact congrArg (qOf m c) (funext fun a => Fin.ext ((cfg0.win 0).rect_emb_val_of_index_zero t0_0 a (by revert a; decide) x))
theorem blk_k (c : Dev nD) : blkOf m c 1 t0_0 = kvOf m c false := by
  funext x; exact congrArg (kvOf m c false) (funext fun a => Fin.ext ((cfg0.win 1).rect_emb_val_of_index_zero t0_0 a (by revert a; decide) x))
theorem blk_v (c : Dev nD) : blkOf m c 2 t0_0 = kvOf m c true := by
  funext x; exact congrArg (kvOf m c true) (funext fun a => Fin.ext ((cfg0.win 2).rect_emb_val_of_index_zero t0_0 a (by revert a; decide) x))

/-! ## What enters the region's invariant and what leaves it -/

/-- What the launch deals to device c for the protocol; the copies' cells are still to be opened. -/
def start (c : Dev nD) : sProp 𝕄 :=
  iprop(∃ K, known (kvOf m) K c ∗ atPos ER (barCell c) 0 ∅ 0 ∗ (bigSep Finset.univ fun s : J × Bool => openTok ER (cellAt c s)) ∗ tokens c ∗ credits c)
/-- The same once they are open. -/
def opened (c : Dev nD) : sProp 𝕄 :=
  iprop(∃ K, known (kvOf m) K c ∗ opens c ∗ levAts L lv ∗ atPos ER (barCell c) 0 ∅ 0
    ∗ (bigSep Finset.univ fun s : J × Bool => atPos ER (cellAt c s) 0 ∅ 0) ∗ tokens c ∗ credits c)
/-- The buffers that only the body uses, at some contents. -/
def scratch (c : Dev nD) : sProp 𝕄 :=
  iprop((∃ f, dstWhole c false f) ∗ (∃ f, dstWhole c true f) ∗ ∃ f, lPts c f)
def enter (c : Dev nD) : sProp 𝕄 := iprop(opened m c ∗ scratch c ∗ ∃ r, prngReg c r)
def leave (c : Dev nD) : sProp 𝕄 :=
  iprop(semVal (barCell c) 0 ∗ (bigSep Finset.univ fun s : J × Bool => semVal (cellAt c s) 0) ∗ scratch c ∗ ∃ r, prngReg c r)

def dat (c : Dev nD) : Dat τ (Elt F) Unit ℕ UU ℕ cfg0 c where
  A := arrOf m c
  after w t := match w with
    | 0 => blkOf m c 0 t
    | 1 => blkOf m c 1 t
    | 2 => blkOf m c 2 t
    | 3 => outOf m c
    | ⟨_ + 4, h⟩ => absurd h (Nat.not_lt.2 (Nat.le_add_left _ _))
  Φ t := if t.val = 0 then enter m c else leave c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem Φ_first (c : Dev nD) : (dat m c).Φ t0_0.castSucc = enter m c := by
  show (if (t0_0.castSucc : Fin (cfg0.N + 1)).val = 0 then enter m c else leave c) = _; exact if_pos rfl
theorem Φ_last (c : Dev nD) : (dat m c).Φ t0_0.succ = leave c := by
  show (if (t0_0.succ : Fin (cfg0.N + 1)).val = 0 then enter m c else leave c) = _; exact if_neg (by decide)
theorem owed_first (c : Dev nD) : (dat m c).owed t0_0.castSucc = O₀ c := by
  show (if (t0_0.castSucc : Fin (cfg0.N + 1)).val = 0 then O₀ c else 0) = _; exact if_pos rfl
theorem owed_last (c : Dev nD) : (dat m c).owed t0_0.succ = 0 := by
  show (if (t0_0.succ : Fin (cfg0.N + 1)).val = 0 then O₀ c else 0) = _; exact if_neg (by decide)

theorem owes_in (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr; · ipureintro; exact fun _ _ => Or.inl trivial
  iexact HO
theorem owes_out (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-! ## The windows' buffers in the body's words -/

theorem before_q (c : Dev nD) (d) : (dat m c).before 0 t0_0 d = qOf m c :=
  (((dat m c).before_in_eq_fetched 0 rfl (fun _ => rfl) (fun _ _ _ => rfl) (fun t => rfl) t0_0 d).trans rfl).trans (blk_q m c)
theorem before_k (c : Dev nD) (d) : (dat m c).before 1 t0_0 d = kvOf m c false :=
  (((dat m c).before_in_eq_fetched 1 rfl (fun _ => rfl) (fun _ _ _ => rfl) (fun t => rfl) t0_0 d).trans rfl).trans (blk_k m c)
theorem before_v (c : Dev nD) (d) : (dat m c).before 2 t0_0 d = kvOf m c true :=
  (((dat m c).before_in_eq_fetched 2 rfl (fun _ => rfl) (fun _ _ _ => rfl) (fun t => rfl) t0_0 d).trans rfl).trans (blk_v m c)

theorem own_q (c : Dev nD) (X : FVec F S1024x2048 .bf16) : (owns (c : Thread nD τ) (st0_0 t0_0) fullShare X : sProp 𝕄) = qPts c X := owns_whole (Val := Elt F) (c : Thread nD τ) cc0_stg0_0 fullShare X
theorem own_k (c : Dev nD) (X : FVec F S1024x2048 .bf16) : (owns (c : Thread nD τ) (st0_1 t0_0) fullShare X : sProp 𝕄) = srcWhole c false X := owns_whole (Val := Elt F) (c : Thread nD τ) cc0_stg1_0 fullShare X
theorem own_v (c : Dev nD) (X : FVec F S1024x2048 .bf16) : (owns (c : Thread nD τ) (st0_2 t0_0) fullShare X : sProp 𝕄) = srcWhole c true X := owns_whole (Val := Elt F) (c : Thread nD τ) cc0_stg2_0 fullShare X
theorem own_o (c : Dev nD) (X : FVec F S1024x2048 .f32) : (owns (c : Thread nD τ) (st0_3 t0_0) fullShare X : sProp 𝕄) = oPts c X := owns_whole (Val := Elt F) (c : Thread nD τ) cc0_stg3_0 fullShare X

/-- The windows before the body, and after it. -/
theorem wins_in (c : Dev nD) :
    iprop((∃ d, owns (c : Thread nD τ) (st0_0 t0_0) fullShare ((dat m c).before 0 t0_0 d)) ∗ (∃ d, owns (c : Thread nD τ) (st0_1 t0_0) fullShare ((dat m c).before 1 t0_0 d))
        ∗ (∃ d, owns (c : Thread nD τ) (st0_2 t0_0) fullShare ((dat m c).before 2 t0_0 d)) ∗ (∃ d, owns (c : Thread nD τ) (st0_3 t0_0) fullShare ((dat m c).before 3 t0_0 d)))
      ⊢ iprop(qPts c (qOf m c) ∗ srcWhole c false (kvOf m c false) ∗ srcWhole c true (kvOf m c true) ∗ ∃ f, oPts c f) := by
  iintro ⟨⟨%d0, H0⟩, ⟨%d1, H1⟩, ⟨%d2, H2⟩, ⟨%d3, H3⟩⟩
  isplitl [H0]
  · rw [← own_q, ← before_q m c d0]; iexact H0
  isplitl [H1]
  · rw [← own_k c (kvOf m c false), ← before_k m c d1]; iexact H1
  isplitl [H2]
  · rw [← own_v c (kvOf m c true), ← before_v m c d2]; iexact H2
  iexists ((dat m c).before 3 t0_0 d3)
  iapply (Entails.of_eq (own_o c ((dat m c).before 3 t0_0 d3))); iexact H3
theorem wins_out (c : Dev nD) :
    iprop(qPts c (qOf m c) ∗ srcWhole c false (kvOf m c false) ∗ srcWhole c true (kvOf m c true) ∗ oPts c (outOf m c))
      ⊢ iprop(owns (c : Thread nD τ) (st0_0 t0_0) fullShare ((dat m c).after 0 t0_0) ∗ owns (c : Thread nD τ) (st0_1 t0_0) fullShare ((dat m c).after 1 t0_0)
        ∗ owns (c : Thread nD τ) (st0_2 t0_0) fullShare ((dat m c).after 2 t0_0) ∗ owns (c : Thread nD τ) (st0_3 t0_0) fullShare ((dat m c).after 3 t0_0)) := by
  iintro ⟨H0, H1, H2, H3⟩
  isplitl [H0]
  · rw [show (dat m c).after 0 t0_0 = qOf m c from blk_q m c]; iapply (Entails.of_eq (own_q c (qOf m c)).symm); iexact H0
  isplitl [H1]
  · rw [show (dat m c).after 1 t0_0 = kvOf m c false from blk_k m c]; iapply (Entails.of_eq (own_k c (kvOf m c false)).symm); iexact H1
  isplitl [H2]
  · rw [show (dat m c).after 2 t0_0 = kvOf m c true from blk_v m c]; iapply (Entails.of_eq (own_v c (kvOf m c true)).symm); iexact H2
  iapply (Entails.of_eq (own_o c (outOf m c)).symm); iexact H3

theorem body_obl (c : Dev nD) : BodyObligation (dat m c) defs₀ 𝒱₀ () Set.univ := fun t => by
  obtain rfl := fin_N0 t
  rw [bigSep_W0, bigSep_W0]
  rw [Φ_first, Φ_last]
  iintro ⟨Hen, HO, Hw⟩
  ihave Hw := (wins_in m c) $$ Hw
  icases Hw with ⟨Hq, Hk, Hv, Ho⟩
  ihave HO := (owes_out m c _ (O₀ c) (owed_first m c)) $$ HO
  icases HO with ⟨%W, HO⟩
  unfold enter opened scratch
  icases Hen with ⟨⟨%K, HK, Hop, Hlev, HatB, Hat, Htok, Hcr⟩, ⟨Hd0, Hd1, Hl⟩, Hreg⟩
  iapply (body_run (kvOf m) K (qOf m) c W)
  isplitr [Hreg]
  · unfold bodyPre
    isplitl [HK]; · iexact HK
    isplitl [Hop]; · iexact Hop
    isplitl [Hlev]; · iexact Hlev
    isplitl [HatB]; · iexact HatB
    isplitl [Hat]; · iexact Hat
    isplitl [Htok]; · iexact Htok
    isplitl [Hcr]; · iexact Hcr
    isplitl [Hq]; · iexact Hq
    isplitl [Hk Hv]; · isplitl [Hk] <;> iassumption
    isplitl [Ho]; · iexact Ho
    isplitl [Hl]; · iexact Hl
    isplitl [Hd0 Hd1]; · isplitl [Hd0] <;> iassumption
    iexact HO
  unfold bodyPost
  iintro ⟨HvB, Hvs, Hq, ⟨Hk, Hv⟩, Ho, Hl, ⟨Hd0, Hd1⟩, ⟨%W', HO⟩⟩
  isplitl [HvB Hvs Hl Hd0 Hd1 Hreg]
  · unfold leave scratch
    isplitl [HvB]; · iexact HvB
    isplitl [Hvs]; · iexact Hvs
    isplitl [Hl Hd0 Hd1]
    · isplitl [Hd0]; · iexact Hd0
      isplitl [Hd1] <;> iassumption
    iexact Hreg
  isplitl [HO]; · iapply (owes_in m c _ 0 (owed_last m c) W'); iexact HO
  iapply (wins_out m c)
  isplitl [Hq]; · iexact Hq
  isplitl [Hk]; · iexact Hk
  isplitl [Hv]; · iexact Hv
  iexact Ho

end Cert.KernelIdeal.Att

end
-- ==== Proof.KernelIdeal.Segments.lean ====
/- The program as three segments: the reshapes of the arguments, the region, the reshape of the result. -/
module

public import proofs.«01_k».proof.Proof.KernelIdeal.Region
public import proofs.«01_k».proof.Proof.Gen.KernelIdeal.Frame

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ
local notation "ℍ" => Pipeline.HostSeg (Ix := Unit) (Name := ℕ) (U := UU) (Lvl := ℕ) (pcfgs (F := F)) defs₀ 𝒱₀ L lv

variable (m : (ℓ : Loc nD τ sig) → Buf (Elt F) ℓ)

/-! ## The contents after the region -/

/-- The output array after the region. -/
theorem arr_out (c : Dev nD) : (dat m c).arrAt 3 cfg0.N = outOf m c :=
  (dat m c).arrAt_eq_of_after_last 3 t0_0 (by decide +kernel) (outOf m c) fun j => rfl

/-- The buffers when the region is left, and at the end of the program. -/
def V₂ (c : Dev nD) : Valuation τ sig (Elt F) :=
  Pipeline.withArrays spec0 c (V₁ m c) fun w => (dat m c).arrAt w cfg0.N
def V₃ (c : Dev nD) : Valuation τ sig (Elt F) := StableHlo.after hostOps1 (V₂ m c)

theorem V₂_out (c : Dev nD) : V₂ m c (Proc.devRef .tc main_v4) = outOf m c :=
  (Pipeline.withArrays_arr spec0 winFacts0.arr_inj c (V₁ m c) (fun w => (dat m c).arrAt w cfg0.N) 3).trans (arr_out m c)

/-- What no operation writes holds what it held at launch. -/
theorem V₁_of_ne (c : Dev nD) (b : Ref sig .tc) (h1 : b ≠ main_v1) (h2 : b ≠ main_v2) (h3 : b ≠ main_v3) :
    V₁ m c (Proc.devRef .tc b) = m (c, Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h1, StableHlo.devRef_ne_of_ne h2, StableHlo.devRef_ne_of_ne h3⟩))
theorem V₃_of_ne (c : Dev nD) (b : Ref sig .tc) (h5 : b ≠ main_v5) (hw : ∀ w, Pipeline.arrRef spec0 w ≠ b)
    (h1 : b ≠ main_v1) (h2 : b ≠ main_v2) (h3 : b ≠ main_v3) : V₃ m c (Proc.devRef .tc b) = m (c, Proc.devRef .tc b) := by
  unfold V₃ V₂
  rw [StableHlo.after_of_forall_not_mem (b := Proc.devRef .tc b) _ _ (List.forall_iff_forall_mem.mp (by
      simp only [hostOps1, List.Forall, StableHlo.reshape_writes, Finset.mem_singleton]
      exact StableHlo.devRef_ne_of_ne h5)),
    Pipeline.withArrays_of_ne _ c _ _ b hw]
  exact V₁_of_ne m c b h1 h2 h3
theorem V₃_arg0 (c : Dev nD) : V₃ m c (Proc.devRef .tc main_arg0) = m (c, Proc.devRef .tc main_arg0) :=
  V₃_of_ne m c main_arg0 (by decide) (by decide) (by decide) (by decide) (by decide)
theorem V₃_arg1 (c : Dev nD) : V₃ m c (Proc.devRef .tc main_arg1) = m (c, Proc.devRef .tc main_arg1) :=
  V₃_of_ne m c main_arg1 (by decide) (by decide) (by decide) (by decide) (by decide)
theorem V₃_arg2 (c : Dev nD) : V₃ m c (Proc.devRef .tc main_arg2) = m (c, Proc.devRef .tc main_arg2) :=
  V₃_of_ne m c main_arg2 (by decide) (by decide) (by decide) (by decide) (by decide)

/-- The reshapes, read. -/
theorem V₃_out (c : Dev nD) :
    V₃ m c (Proc.devRef .tc main_v5) = shapeCast S1x1024x16x128 (outOf m c) shapeCasts_S1024x2048_S1x1024x16x128 := by
  rw [← V₂_out]
  unfold V₃
  after_results
  rfl
theorem qOf_eq (c : Dev nD) :
    qOf m c = shapeCast S1024x2048 (m (c, Proc.devRef .tc main_arg0)) shapeCasts_S1x1024x16x128_S1024x2048 := by
  unfold qOf V₁ V₀
  after_results
  rfl
theorem kOf_eq (c : Dev nD) :
    kvOf m c false = shapeCast S1024x2048 (m (c, Proc.devRef .tc main_arg1)) shapeCasts_S1x1024x16x128_S1024x2048 := by
  unfold kvOf V₁ V₀
  after_results
  rfl
theorem vOf_eq (c : Dev nD) :
    kvOf m c true = shapeCast S1024x2048 (m (c, Proc.devRef .tc main_arg2)) shapeCasts_S1x1024x16x128_S1024x2048 := by
  unfold kvOf V₁ V₀
  after_results
  rfl

/-! ## The region -/

theorem semAt_own : Pipeline.OwnSemFacts spec0 semAt := by decide

theorem open_at (K : GSem nD τ sig → ℕ) (c : Dev nD) (s : J × Bool) :
    iprop(known (kvOf m) K c ∗ (openTok ER (cellAt c s) ∗ semVal (cellAt c s) 0))
      ⊢ (|={Set.univ}=> (atPos ER (cellAt c s) 0 ∅ 0 ∗ reached ER (cellAt c s) 0) : sProp 𝕄) := by
  iintro ⟨HK, Hop, Hv⟩
  ihave HI := (known_own (kvOf m) K c s) $$ HK
  iapply (Rounds.cell_open ER (talk (kvOf m)) (Set.mem_univ (K (cellAt c s))))
  isplitl [HI]; · iexact HI
  isplitl [Hop] <;> iassumption
theorem open_all (K : GSem nD τ sig → ℕ) (c : Dev nD) :
    iprop(known (kvOf m) K c ∗ (bigSep Finset.univ fun s : J × Bool => openTok ER (cellAt c s)) ∗ bigSep Finset.univ fun s : J × Bool => semVal (cellAt c s) 0)
      ⊢ (|={Set.univ}=> ((bigSep Finset.univ fun s : J × Bool => atPos ER (cellAt c s) 0 ∅ 0) ∗ opens c) : sProp 𝕄) := by
  unfold opens
  rw [← bigSep_sep', ← bigSep_sep']
  exact (bigSep_with_persistent fun s _ => open_at m K c s).trans (bigSep_fupd _ _)

theorem enter_open (c : Dev nD) : iprop(start m c ∗ Pipeline.ownSems0 semAt c ∗ levAts L lv) ⊢ (|={Set.univ}=> opened m c : sProp 𝕄) := by
  unfold start opened Pipeline.ownSems0
  iintro ⟨⟨%K, #HK, HatB, Hop, Htok, Hcr⟩, Hos, Hlev⟩
  imod (open_all m K c) $$ [Hop Hos] with ⟨Hat, Hr⟩
  · isplitr; · iexact HK
    isplitl [Hop] <;> iassumption
  imodintro
  iexists K
  isplitr; · iexact HK
  isplitl [Hr]; · iexact Hr
  isplitl [Hlev]; · iexact Hlev
  isplitl [HatB]; · iexact HatB
  isplitl [Hat]; · iexact Hat
  isplitl [Htok] <;> iassumption

theorem held_none (c : Dev nD) (W : Valuation τ sig (Elt F)) : (StableHlo.held (c.tc : Thread nD τ) ∅ W : sProp 𝕄) = BI.emp := by
  unfold StableHlo.held; exact BI.bigSep_empty

theorem enter_in (c : Dev nD) :
    iprop(Pipeline.scopedRest (Pipeline.pin (pcfgs (F := F)) adm 0).spec c ∗ (∃ r, prngReg c r) ∗ StableHlo.held (c.tc : Thread nD τ) ∅ (V₁ m c) ∗ opened m c)
      ⊢ (pdats m 0 c).Φ 0 := by
  rw [show (pdats m 0 c).Φ 0 = enter m c from Φ_first m c]
  refine (show _ ⊢ iprop(Pipeline.scopedRest spec0 c ∗ (∃ r, prngReg c r) ∗ opened m c) from ?_).trans ?_
  · iintro ⟨Hs, Hp, -, Ho⟩
    isplitl [Hs]; · iexact Hs
    isplitl [Hp] <;> iassumption
  rw [scopedRest0_eq c]
  unfold enter scratch
  iintro ⟨⟨Hk, Hv, Hl⟩, Hp, Ho⟩
  isplitl [Ho]; · iexact Ho
  isplitl [Hk Hv Hl]
  · isplitl [Hk]; · iexact Hk
    isplitl [Hv] <;> iassumption
  iexact Hp

theorem leave_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 semAt c ∗ semVal (barCell c) 0) := by
  rw [show (pdats m 0 c).Φ (Fin.last _) = leave c from Φ_last m c, held_none]
  refine (show _ ⊢ iprop(Pipeline.scopedRest spec0 c ∗ (∃ r, prngReg c r) ∗ (bigSep Finset.univ fun s : J × Bool => semVal (cellAt c s) 0) ∗ semVal (barCell c) 0) from ?_).trans ?_
  · rw [scopedRest0_eq c]
    unfold leave scratch
    iintro ⟨Hb, Hs, ⟨Hk, Hv, Hl⟩, Hp⟩
    isplitl [Hk Hv Hl]
    · isplitl [Hk]; · iexact Hk
      isplitl [Hv] <;> iassumption
    isplitl [Hp]; · iexact Hp
    isplitl [Hs] <;> iassumption
  unfold Pipeline.ownSems0
  iintro ⟨Hr, Hp, Hs, Hb⟩
  isplitl [Hr]; · iexact Hr
  isplitl [Hp]; · iexact Hp
  isplitr; · iempintro
  isplitl [Hs]; · iexact Hs
  iexact Hb

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- All that is owed lies above the windows' semaphores. -/
theorem O₀_cut {c : Dev nD} {g : GSem nD τ sig} {u : Unit} (h : 0 < O₀ c g u) : u ∈ L g ∧ 0 < lv g u := by
  unfold O₀ at h
  rw [Pi.add_apply, Finsupp.add_apply] at h
  rcases Nat.add_pos_iff_pos_or_pos.mp h with h | h
  · obtain ⟨j, rfl⟩ := owe_pos h
    refine ⟨by rw [L_tc]; exact Finset.mem_singleton_self _, ?_⟩
    have : slotOf (recvCell (pr c) j).2 = some (some (j, true)) := slotOf_semAt (j, true)
    dsimp only [lv]; rw [this]; exact (by decide : (0 : ℕ) < 2)
  · obtain rfl := (Pipeline.tallyAt_pos h).1
    refine ⟨by rw [L_tc]; exact Finset.mem_singleton_self _, ?_⟩
    dsimp only [lv]; rw [slotOf_bar]; exact (by decide : (0 : ℕ) < 1)

theorem cut (c : Dev nD) (t : Fin ((Pipeline.pin (pcfgs (F := F)) adm 0).N + 1)) (g : GSem nD τ sig) (u : Unit) (h : 0 < (pdats m 0 c).owed t g u) :
    u ∈ L g ∧ (0 : ℕ) < lv g u := by
  have e : (pdats m 0 c).owed t = if t.val = 0 then O₀ c else 0 := rfl
  rw [e] at h
  split at h
  · exact O₀_cut h
  · exact absurd h (Nat.lt_irrefl 0)

theorem stage_lv (c : Dev nD) (w : Fin 4) (s : Fin (spec0 w).nbuf) : lv ((c : Thread nD τ), .dma ((spec0 w).sem s)) () ≤ 0 := by
  revert s; revert w
  exact (by decide : ∀ (w : Fin 4) (s : Fin (spec0 w).nbuf), (match slotOf (.dma ((spec0 w).sem s)) with | some none => 1 | some (some (_, true)) => 2 | _ => 0) ≤ 0)

abbrev bufs : Finset (DevRef τ sig) := Pipeline.ucRefs τ sig
abbrev arrs : Finset (DevRef τ sig) := Pipeline.arrRefs (τ := τ) (pcfgs (F := F) 0).spec

theorem arrs_sub : arrs (F := F) ⊆ bufs := fun b hb => by
  obtain ⟨r, hr, rfl⟩ := Finset.mem_map.mp hb
  obtain ⟨w, -, rfl⟩ := Finset.mem_image.mp hr
  exact (by decide : ∀ w : Fin 4, (Proc.devRef .tc (Pipeline.arrRef spec0 w) : DevRef τ sig) ∈ bufs) w

theorem rest_same (c : Dev nD) (b : DevRef τ sig) (hb : b ∈ (bufs \ arrs (F := F)) \ ∅) : V₂ m c b = V₁ m c b := by
  rw [Finset.sdiff_empty, Finset.mem_sdiff] at hb
  obtain ⟨hu, ha⟩ := hb
  obtain ⟨r, -, rfl⟩ := Finset.mem_map.mp (Finset.mem_filter.mp hu).1
  exact Pipeline.withArrays_of_ne _ c _ _ r fun w e => ha (Finset.mem_map_of_mem _ (Finset.mem_image.mpr ⟨w, Finset.mem_univ _, e⟩))

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 semAt semAt_own
    ∅ (bufs \ arrs (F := F)) (Finset.empty_subset _) kit rfl (fun c => (body_obl m c).loose)
    (fun _ => 0) O₀ (fun c => (owed_first m c).trans (zero_add _).symm) (owed_last m) (fun _ => rfl) (fun _ w => by fin_cases w <;> rfl)
    (V₁ m) (V₂ m) (rest_same m)
    (start m) (fun c => semVal (barCell c) 0) (opened m) (fun c => semVal (barCell c) 0) (enter_open m) (enter_in m) (leave_out m)
    (fun c => by iintro H; imodintro; iexact H)
    (fun _ => 0)
    ⟨fun c w s => by rw [show L _ = _ from L_tc c _]; exact Finset.mem_singleton_self _, stage_lv, cut m⟩
    (fun _ => iprop(emp))
    (fun c w => rfl)
    (fun c w => (Pipeline.withArrays_arr spec0 winFacts0.arr_inj c (V₁ m c) (fun w => (dat m c).arrAt w cfg0.N) w).symm)

/-! ## The segments -/

/-- What a device carries beside its buffers before the region, and after it. -/
def R₀ (c : Dev nD) : sProp 𝕄 :=
  iprop(start m c ∗ (∃ r, prngReg c r) ∗ ∃ W, owes (c : Thread nD τ) (O₀ c) W)
def R₁ (c : Dev nD) : sProp 𝕄 :=
  iprop(semVal (barCell c) 0 ∗ ∃ W, owes (c : Thread nD τ) (0 : CellTallies nD τ sig Unit) W)

def seg0 : ℍ := Pipeline.HostSeg.ofOps _ _ _ _ _ bufs hostOps0
  (fun op h => Pipeline.sub_ucRefs op (List.forall_iff_forall_mem.mp hostOps0_sub op h)) (List.forall_iff_forall_mem.mp hostOps0_fresh) (V₀ m) (R₀ m)
def seg1 : ℍ := Pipeline.HostSeg.ofOps _ _ _ _ _ bufs hostOps1
  (fun op h => Pipeline.sub_ucRefs op (List.forall_iff_forall_mem.mp hostOps1_sub op h)) (List.forall_iff_forall_mem.mp hostOps1_fresh) (V₂ m) (R₁)

theorem reg_pre (c : Dev nD) : iprop(StableHlo.held (c : Thread nD τ) bufs (V₁ m c) ∗ R₀ m c) ⊢ (reg m).pre c := by
  show _ ⊢ iprop(StableHlo.held (c.tc : Thread nD τ) (arrs (F := F)) (V₁ m c) ∗ (∃ r, prngReg c r)
    ∗ (StableHlo.held (c.tc : Thread nD τ) (bufs \ arrs (F := F)) (V₁ m c) ∗ emp) ∗ start m c ∗ ∃ Wd, owes (c : Thread nD τ) (0 + O₀ c) Wd)
  rw [zero_add, StableHlo.held_sub_split (c : Thread nD τ) (arrs_sub (F := F)) (V₁ m c)]
  unfold R₀
  iintro ⟨⟨Ha, Hr⟩, Hst, Hp, HO⟩
  isplitl [Ha]; · iexact Ha
  isplitl [Hp]; · iexact Hp
  isplitl [Hr]
  · isplitl [Hr]; · iexact Hr
    iempintro
  isplitl [Hst] <;> iassumption

theorem reg_post (c : Dev nD) : (reg m).post c ⊢ iprop(StableHlo.held (c : Thread nD τ) bufs (V₂ m c) ∗ R₁ c) := by
  show iprop(StableHlo.held (c.tc : Thread nD τ) (arrs (F := F)) (V₂ m c) ∗ (∃ r, prngReg c r)
    ∗ (StableHlo.held (c.tc : Thread nD τ) (bufs \ arrs (F := F)) (V₂ m c) ∗ emp) ∗ semVal (barCell c) 0 ∗ ∃ Wd, owes (c : Thread nD τ) (0 : CellTallies nD τ sig Unit) Wd) ⊢ _
  rw [StableHlo.held_sub_split (c : Thread nD τ) (arrs_sub (F := F)) (V₂ m c)]
  unfold R₁
  iintro ⟨Ha, -, ⟨Hr, -⟩, Hb, HO⟩
  isplitl [Ha Hr]; · isplitl [Ha] <;> iassumption
  isplitl [Hb] <;> iassumption

def segs : List (Pipeline.Seg (pcfgs (F := F)) adm (pdats m) () defs₀ 𝒱₀ L lv) :=
  [.host (seg0 m), .region (reg m), .host (seg1 m)]

end Cert.KernelIdeal.Att

end
-- ==== Proof.KernelIdeal.Launch.lean ====
/- The launch of the protocol on all devices, and the program's run. -/
module

public import proofs.«01_k».proof.Proof.KernelIdeal.Segments
public import Idealize.ShloMosaic.Harness.Basic

@[expose] public section

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells -/

theorem dev_of_cell {c d : Dev nD} {s t : SemLoc sig} (h : (((c : Thread nD τ), s) : GSem nD τ sig) = ((d : Thread nD τ), t)) : c = d :=
  congrArg (fun g : GSem nD τ sig => g.1.1) h

def barEmb : Dev nD ↪ GSem nD τ sig := ⟨fun c => barCell c, fun _ _ h => dev_of_cell h⟩
def endEmb : Dev nD × (J × Bool) ↪ GSem nD τ sig :=
  ⟨fun x => cellAt x.1 x.2, fun _ _ h => Prod.ext (dev_of_cell h) (semAt_inj (congrArg Prod.snd h))⟩
/-- The barriers, and the copies' ends. -/
abbrev bars : Finset (GSem nD τ sig) := Finset.univ.map barEmb
abbrev ends : Finset (GSem nD τ sig) := Finset.univ.map endEmb
/-- Every cell has one duty, in round 0. -/
def dutyEmb : GSem nD τ sig ↪ GSem nD τ sig × ℕ × Unit := ⟨fun g => (g, 0, ()), fun _ _ h => congrArg Prod.fst h⟩
abbrev duties : Finset (GSem nD τ sig × ℕ × Unit) := (bars ∪ ends).map dutyEmb

theorem bars_ends : Disjoint (bars : Finset (GSem nD τ sig)) ends := by
  rw [Finset.disjoint_left]
  rintro g h₁ h₂
  obtain ⟨c, -, rfl⟩ := Finset.mem_map.mp h₁
  obtain ⟨x, -, h⟩ := Finset.mem_map.mp h₂
  exact semAt_ne_bar x.2 (congrArg Prod.snd h)
theorem bar_mem (c : Dev nD) : barCell c ∈ (bars ∪ ends : Finset (GSem nD τ sig)) :=
  Finset.mem_union_left _ (Finset.mem_map_of_mem barEmb (Finset.mem_univ c))
theorem end_mem (c : Dev nD) (s : J × Bool) : cellAt c s ∈ (bars ∪ ends : Finset (GSem nD τ sig)) :=
  Finset.mem_union_right _ (Finset.mem_map_of_mem endEmb (Finset.mem_univ (c, s)))

theorem over_bars (Φ : GSem nD τ sig → sProp 𝕄) : bigSep bars Φ = bigSep Finset.univ fun c => Φ (barCell c) := bigSep_map barEmb
theorem over_ends (Φ : GSem nD τ sig → sProp 𝕄) : bigSep ends Φ = bigSep Finset.univ fun c => bigSep Finset.univ fun s : J × Bool => Φ (cellAt c s) := by
  rw [bigSep_map, bigSep_univ_prod]; rfl

/-! ## The ghost state at launch -/

def u₀ : UU :=
  (initOf (Pipeline.cells (Pipeline.pin (pcfgs (F := F)) adm) cellOf_inj) (Pipeline.launchToks (Pipeline.pin (pcfgs (F := F)) adm) cellOf_inj),
    launchOf bars ends duties)

/-- All of a resource on the first device. -/
def onFirst (X : sProp 𝕄) (c : Dev nD) : sProp 𝕄 := if c = 0 then X else iprop(emp)
theorem over_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
def G : Dev nD → sProp 𝕄 := onFirst (BI.own (ER (launchOf bars ends duties)))

/-- What every device may consult. -/
def records (κ : GSem nD τ sig → ℕ) : sProp 𝕄 :=
  iprop((bigSep (bars ∪ ends) fun g => cellInv ER (talk (kvOf m)) (κ g) g) ∗ bigSep bars fun g => reached ER g 0)
instance records_persistent (κ : GSem nD τ sig → ℕ) : BI.Persistent (records m κ) := by unfold records; infer_instance

theorem inv_of (κ : GSem nD τ sig → ℕ) {g : GSem nD τ sig} (hg : g ∈ (bars ∪ ends : Finset (GSem nD τ sig))) :
    records m κ ⊢ cellInv ER (talk (kvOf m)) (κ g) g := by
  have e : (bigSep (bars ∪ ends) fun g => (cellInv ER (talk (kvOf m)) (κ g) g : sProp 𝕄)) ⊢ cellInv ER (talk (kvOf m)) (κ g) g := bigSep_elim hg
  unfold records
  iintro ⟨HI, -⟩
  iapply e; iexact HI
theorem reached_of (κ : GSem nD τ sig → ℕ) (c : Dev nD) : records m κ ⊢ reached ER (barCell c) 0 := by
  have e : (bigSep bars fun g => (reached ER g 0 : sProp 𝕄)) ⊢ reached ER (barCell c) 0 := bigSep_elim (Finset.mem_map_of_mem barEmb (Finset.mem_univ c))
  unfold records
  iintro ⟨-, HR⟩
  iapply e; iexact HR
theorem invs_of (κ : GSem nD τ sig → ℕ) {I : Type} [DecidableEq I] [Fintype I] (g : I → GSem nD τ sig) (hg : ∀ i, g i ∈ (bars ∪ ends : Finset (GSem nD τ sig))) :
    records m κ ⊢ bigSep Finset.univ fun i => cellInv ER (talk (kvOf m)) (κ (g i)) (g i) :=
  (bigSep_of_persistent Finset.univ (records m κ)).trans (bigSep_mono fun i _ => inv_of m κ (hg i))

theorem known_of (κ : GSem nD τ sig → ℕ) (c : Dev nD) : records m κ ⊢ known (kvOf m) κ c := by
  unfold known
  iintro #H
  isplitr; · iapply (inv_of m κ (bar_mem c)); iexact H
  isplitr; · iapply (inv_of m κ (bar_mem (pr c))); iexact H
  isplitr; · iapply (invs_of m κ (fun s : J × Bool => cellAt c s) (end_mem c)); iexact H
  isplitr; · iapply (invs_of m κ (fun j : J => recvCell (pr c) j) (fun j => end_mem (pr c) (j, true))); iexact H
  iapply (reached_of m κ (pr c)); iexact H

/-- Every duty's token goes to the device that pays it: those of the barriers and of the receivers' ends to the peers. -/
theorem deal_tokens : bigSep duties (fun x => (dutyTok ER x.1 x.2.1 x.2.2 : sProp 𝕄)) = bigSep Finset.univ fun c : Dev nD => tokens c := by
  unfold tokens
  have e (c : Dev nD) : (bigSep Finset.univ fun s : J × Bool => (dutyTok ER (cellAt c s) 0 () : sProp 𝕄))
      = iprop((bigSep Finset.univ fun j : J => dutyTok ER (sendCell c j) 0 ()) ∗ bigSep Finset.univ fun j : J => dutyTok ER (recvCell c j) 0 ()) :=
    byEnd fun s : J × Bool => (dutyTok ER (cellAt c s) 0 () : sProp 𝕄)
  have e' (c : Dev nD) : (bigSep Finset.univ fun j : J => iprop((dutyTok ER (sendCell c j) 0 () : sProp 𝕄) ∗ dutyTok ER (recvCell (pr c) j) 0 ()))
      = iprop((bigSep Finset.univ fun j : J => dutyTok ER (sendCell c j) 0 ()) ∗ bigSep Finset.univ fun j : J => dutyTok ER (recvCell (pr c) j) 0 ()) :=
    bigSep_sep' _ _ _
  rw [bigSep_map, bigSep_union bars_ends, over_bars, over_ends]
  show iprop((bigSep Finset.univ fun c : Dev nD => dutyTok ER (barCell c) 0 ()) ∗ bigSep Finset.univ fun c : Dev nD => bigSep Finset.univ fun s : J × Bool => (dutyTok ER (cellAt c s) 0 () : sProp 𝕄)) = _
  rw [bigSep_univ_equiv swap (fun c : Dev nD => (dutyTok ER (barCell c) 0 () : sProp 𝕄)), bigSep_congr fun (c : Dev nD) _ => e c, bigSep_sep',
    bigSep_univ_equiv swap (fun c : Dev nD => (bigSep Finset.univ fun j : J => dutyTok ER (recvCell c j) 0 () : sProp 𝕄))]
  rw [bigSep_sep', bigSep_congr fun (c : Dev nD) _ => e' c, bigSep_sep']
  rfl

/-! ## The units that are waited with -/

theorem tally_dev {s t : SemLoc sig} (d c : Dev nD) (n : ℕ) :
    (tallyAt (((pr d : Dev nD) : Thread nD τ), s) () n : CellTallies nD τ sig Unit) ((c : Thread nD τ), t) () = if s = t then (if d = pr c then n else 0) else 0 := by
  rw [tallyAt_apply]
  by_cases hs : s = t
  · subst hs
    rw [if_pos rfl]
    by_cases h : d = pr c
    · subst h; rw [pr_pr, if_pos ⟨rfl, rfl⟩, if_pos rfl]
    · rw [if_neg h, if_neg fun ⟨h1, _⟩ => h (by rw [dev_of_cell h1, pr_pr])]
  · rw [if_neg hs, if_neg fun ⟨h1, _⟩ => hs (congrArg Prod.snd h1).symm]

theorem owe_bar (d c : Dev nD) (js : List J) : owe d js (barCell c) () = 0 := by
  by_contra h
  obtain ⟨j, e⟩ := owe_pos (Nat.pos_of_ne_zero h)
  exact semAt_ne_bar (j, true) (congrArg Prod.snd e).symm
theorem owe_recv (d c : Dev nD) (j : J) (js : List J) : owe d js (recvCell c j) () = if d = pr c then js.count j * N else 0 := by
  induction js with
  | nil => rw [List.count_nil, Nat.zero_mul, ite_self]; rfl
  | cons i js ih =>
    rw [owe, Pi.add_apply, Finsupp.add_apply, ih, tally_dev, List.count_cons]
    by_cases hd : d = pr c
    · simp only [if_pos hd]
      by_cases hi : i = j
      · subst hi; simp only [if_pos, beq_self_eq_true]; ring
      · rw [if_neg fun h : (SemLoc.dma (recvS i.2 i.1) : SemLoc sig) = .dma (recvS j.2 j.1) => hi (congrArg Prod.fst (semAt_inj (a₁ := (i, true)) (a₂ := (j, true)) h))]
        rw [if_neg (by simpa using hi), Nat.add_zero, Nat.add_zero]
    · simp only [if_neg hd, ite_self]

theorem owed_bar (d c : Dev nD) : O₀ d (barCell c) () = if d = pr c then 1 else 0 := by
  unfold O₀
  rw [Pi.add_apply, Finsupp.add_apply, owe_bar, tally_dev, if_pos rfl, Nat.zero_add]
theorem owed_recv (d c : Dev nD) (j : J) : O₀ d (recvCell c j) () = if d = pr c then N else 0 := by
  unfold O₀
  rw [Pi.add_apply, Finsupp.add_apply, owe_recv, tally_dev, if_neg fun h : (SemLoc.reg barS : SemLoc sig) = .dma (recvS j.2 j.1) => semAt_ne_bar (j, true) h.symm, Nat.add_zero,
    (by decide : ∀ j : J, copies.count j = 1) j, Nat.one_mul]

theorem launch_cell (g : GSem nD τ sig) (c : Dev nD) (n : ℕ) (h : ∀ d, O₀ d g () = if d = pr c then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (pr c) fun _ => n,
    if_pos (Finset.mem_univ _)]

def recvEmb : J ↪ SemLoc sig := ⟨fun j => semAt (j, true), fun _ _ h => congrArg Prod.fst (semAt_inj h)⟩

theorem credits_of (c : Dev nD) : (Pipeline.launchCred O₀ c : sProp 𝕄) ⊢ credits c := by
  unfold Pipeline.launchCred credits
  rw [bigSep_univ_at _ (SemLoc.reg barS), launch_cell (barCell c) c 1 fun d => owed_bar d c]
  refine sep_mono_right ?_
  refine (bigSep_subset (t := Finset.univ.map recvEmb) fun s hs => ?_).trans ?_
  · obtain ⟨j, -, rfl⟩ := Finset.mem_map.mp hs
    exact Finset.mem_erase.mpr ⟨semAt_ne_bar (j, true), Finset.mem_univ _⟩
  · rw [bigSep_map]
    exact bigSep_mono fun j _ => Entails.of_eq (congrArg cred (launch_cell (recvCell c j) c N fun d => owed_recv d c j))

/-! ## The start of every device -/

abbrev T₀ (c : Dev nD) : sProp 𝕄 := iprop(StableHlo.held (c : Thread nD τ) bufs (V₀ m c) ∗ R₀ m c)
abbrev Tₙ (c : Dev nD) : sProp 𝕄 := iprop(StableHlo.held (c : Thread nD τ) bufs (V₃ m c) ∗ semVal (barCell c) 0)

/-- A device's own part of the protocol's ghost state, and of the rest. -/
def share (c : Dev nD) : sProp 𝕄 :=
  iprop(atPos ER (barCell c) 0 ∅ 0 ∗ (bigSep Finset.univ fun s : J × Bool => openTok ER (cellAt c s)) ∗ tokens c)
def rest (c : Dev nD) : sProp 𝕄 :=
  iprop(StableHlo.held (c : Thread nD τ) bufs (V₀ m c) ∗ credits c ∗ owes (c : Thread nD τ) (O₀ c) ∅ ∗ ∃ r, prngReg c r)

theorem T₀_of (κ : GSem nD τ sig → ℕ) (c : Dev nD) : iprop(records m κ ∗ (share c ∗ rest m c)) ⊢ T₀ m c := by
  unfold share rest T₀ R₀ start
  iintro ⟨HR, ⟨Hat, Hop, Htok⟩, Hh, Hc, HO, Hp⟩
  ihave HK := (known_of m κ c) $$ HR
  isplitl [Hh]; · iexact Hh
  isplitl [HK Hat Hop Htok Hc]
  · iexists κ
    isplitl [HK]; · iexact HK
    isplitl [Hat]; · iexact Hat
    isplitl [Hop]; · iexact Hop
    isplitl [Htok] <;> iassumption
  isplitl [Hp]; · iexact Hp
  iexists ∅; iexact HO

theorem counters (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem init_at (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(rest m c ∗ (semVal (barCell c) 0 ∗ G c)) : sProp 𝕄) := by
  rw [show unscopedBufs c (fun b => m ((c : Thread nD τ).loc b)) = StableHlo.held (c : Thread nD τ) bufs (V₀ m c) from Pipeline.unscopedBufs_held c (V₀ m c),
    counters]
  unfold rest
  iintro ⟨Hh, Hus, HO, Hcr, Hp, HG⟩
  ihave Hc := (credits_of (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hsplit : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ (rest m)) ∗ (bigSep bars fun g => semVal g 0) ∗ BI.own (ER (launchOf bars ends duties))) : sProp 𝕄) := by
    refine (bigSep_mono fun c _ => init_at m ρ c).trans ?_
    rw [bigSep_sep', bigSep_sep', over_bars, show bigSep Finset.univ (G (F := F)) = _ from over_onFirst (F := F) _]
    exact BI.Entails.refl _
  iintro ⟨H, -⟩
  ihave H' := hsplit $$ H
  icases H' with ⟨HB, Hv, Hu⟩
  imod (Rounds.fund_launch ER (talk (kvOf m)) bars_ends (fun g _ h => h) duties) $$ [Hv Hu] with ⟨%κ, -, #Hinv, #Hr, Hat, Hopen, Htok⟩
  · isplitl [Hv] <;> iassumption
  imodintro
  iapply (bigSep_with_persistent (R := records m κ) (Φ := fun c => iprop(share c ∗ rest m c)) fun c _ => T₀_of m κ c)
  isplitr
  · unfold records
    isplitr; · iexact Hinv
    iexact Hr
  rw [bigSep_sep']
  isplitr [HB]
  · unfold share
    rw [bigSep_sep', bigSep_sep']
    isplitl [Hat]; · iapply (Entails.of_eq (over_bars (fun g => (atPos ER g 0 ∅ 0 : sProp 𝕄)))); iexact Hat
    isplitl [Hopen]; · iapply (Entails.of_eq (over_ends (fun g => (openTok ER g : sProp 𝕄)))); iexact Hopen
    iapply (Entails.of_eq (deal_tokens (F := F))); iexact Htok
  · iexact HB

/-! ## The run -/

theorem held_bufs (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1)) ∗ (((c : Thread nD τ).loc main_arg2) ↦{fullShare} W (Proc.devRef .tc main_arg2)) ∗ (((c : Thread nD τ).loc main_v5) ↦{fullShare} W (Proc.devRef .tc main_v5)) ∗ (((c : Thread nD τ).loc main_v1) ↦{fullShare} W (Proc.devRef .tc main_v1)) ∗ (((c : Thread nD τ).loc main_v2) ↦{fullShare} W (Proc.devRef .tc main_v2)) ∗ (((c : Thread nD τ).loc main_v3) ↦{fullShare} W (Proc.devRef .tc main_v3)) ∗ (((c : Thread nD τ).loc main_v4) ↦{fullShare} W (Proc.devRef .tc main_v4))) := by
  unfold StableHlo.held
  rw [bigSep_eq_bigSepL_of_eq [Proc.devRef .tc main_arg0, Proc.devRef .tc main_arg1, Proc.devRef .tc main_arg2, Proc.devRef .tc main_v5, Proc.devRef .tc main_v1, Proc.devRef .tc main_v2, Proc.devRef .tc main_v3, Proc.devRef .tc main_v4] (by decide) (by decide)]
  rfl

theorem counter_unscoped : ∀ sm : SemLoc sig, sm.isScoped .tc = false → sm = .reg barS := by decide

set_option backward.isDefEq.respectTransparency.types false in
/-- Every execution ends with the arguments unchanged, device c's result the reshape of what `outOf` says of its
    own and its peer's blocks, and every counter at zero. -/
theorem run_main : θ_run defs (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.mem ((c.tc : Thread nD τ).loc main_v5) = shapeCast S1x1024x16x128 (outOf m c) shapeCasts_S1024x2048_S1x1024x16x128) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (reg m) rfl rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [over_onFirst]; iexact HX)
    (T₀ := T₀ m) (Tₙ := Tₙ m)
    (hch := by
      refine ⟨fun c => .rfl, fun c => reg_pre m c, fun c => reg_post m c, fun c => ?_⟩
      show iprop(StableHlo.held (c : Thread nD τ) bufs (V₃ m c)
          ∗ (semVal (barCell c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb0, HO⟩
      isplitr [HO]
      · isplitl [Hh] <;> iassumption
      · iexact HO)
    (hinit := init m ρ)
    (QY := fun c s => (s.mem ((c : Thread nD τ).loc main_arg0) = V₃ m c (Proc.devRef .tc main_arg0) ∧ s.mem ((c : Thread nD τ).loc main_arg1) = V₃ m c (Proc.devRef .tc main_arg1)
        ∧ s.mem ((c : Thread nD τ).loc main_arg2) = V₃ m c (Proc.devRef .tc main_arg2) ∧ s.mem ((c : Thread nD τ).loc main_v5) = V₃ m c (Proc.devRef .tc main_v5))
      ∧ s.sem (barCell c) = 0)
    (hfin := fun c s' => by
      dsimp only [Tₙ]; rw [held_bufs]
      iintro ⟨⟨⟨H0, H1, H2, H5, -⟩, Hb0⟩, HSI⟩
      icombine HSI H0 gives %h0
      icombine HSI H1 gives %h1
      icombine HSI H2 gives %h2
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h5⟩, by simpa using hb⟩
      iexact HSI)
    (hQ := fun s h hs => ⟨fun c => by
        obtain ⟨⟨h0, h1, h2, h5⟩, -⟩ := h c
        rw [V₃_arg0] at h0; rw [V₃_arg1] at h1; rw [V₃_arg2] at h2; rw [V₃_out] at h5
        exact ⟨⟨h0, h1, h2⟩, h5⟩,
      sem_eq_zero hs fun c sm hsm => by
        obtain rfl := counter_unscoped sm hsm
        exact (h c).2⟩)

end Cert.KernelIdeal.Att

end
-- ==== Proof.Value.Softmax.lean ====
/- Softmax over the extended reals: for real scores, the weighted sum that normalizes each weight after subtracting a real number
   from every score is the weighted sum of the bare exponentials, divided at the end by their sum. The weighted values may be
   infinite: only the scores are real. -/
module

public import Idealize.ShloMosaic.PureOps.Ideal
public import Idealize.ShloMosaic.PureOps.Ideal.Laws

@[expose] public section

namespace Cert.Softmax

open Idealize.ShloMosaic

/-- A finite sum of reals, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A nonnegative real factor goes into a finite sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s h ih =>
    rw [Finset.sum_insert h, Finset.sum_insert h, ← ih,
      EReal.right_distrib_of_nonneg_of_ne_top (EReal.coe_nonneg.2 hr) (EReal.coe_ne_top r)]

/-- The greatest of finitely many reals, taken in the extended reals from ⊥, is a real. -/
theorem fold_max_coe {ι : Type} [Fintype ι] [Nonempty ι] (x : ι → ℝ) :
    ∃ M : ℝ, Finset.univ.fold max (⊥ : EReal) (fun t => ((x t : ℝ) : EReal)) = (M : EReal) := by
  obtain ⟨t, -, ht⟩ := Finset.exists_mem_eq_sup Finset.univ Finset.univ_nonempty (fun t => ((x t : ℝ) : EReal))
  exact ⟨x t, ht⟩

/-- Normalizing each weight, after a shift of the scores, is normalizing the weighted sum of the bare exponentials. -/
theorem normalize {ι : Type} [Fintype ι] [Nonempty ι] (x : ι → ℝ) (v : ι → EReal) (M : ℝ) :
    ∑ t, v t * Ideal.div (Ideal.exp ((x t : EReal) - (M : EReal))) (∑ u, Ideal.exp ((x u : EReal) - (M : EReal)))
      = (∑ t, Ideal.exp (x t : EReal) * v t) * Ideal.div 1 (∑ u, Ideal.exp (x u : EReal)) := by
  have hpos : ∀ y : ι → ℝ, 0 < ∑ u, Real.exp (y u) := fun y =>
    Finset.sum_pos (fun u _ => Real.exp_pos _) Finset.univ_nonempty
  have hL := hpos x
  have hL' := hpos fun u => x u - M
  simp only [← EReal.coe_sub, Ideal.exp_coe, coe_sum]
  rw [Ideal.div_coe hL.ne', one_mul]
  have h1 : ∀ a : EReal, Ideal.div a ((∑ u, Real.exp (x u - M) : ℝ) : EReal) = a * ((1 / ∑ u, Real.exp (x u - M) : ℝ) : EReal) :=
    Ideal.div_coe hL'.ne'
  rw [sum_mul_coe _ _ (by positivity)]
  refine Finset.sum_congr rfl fun t _ => ?_
  rw [h1, mul_comm ((Real.exp (x t) : ℝ) : EReal), mul_assoc, ← EReal.coe_mul, ← EReal.coe_mul]
  congr 2
  have hs : ∑ u, Real.exp (x u - M) = (∑ u, Real.exp (x u)) * Real.exp (-M) := by
    rw [Finset.sum_mul]
    exact Finset.sum_congr rfl fun u _ => by rw [sub_eq_add_neg, Real.exp_add]
  rw [hs, sub_eq_add_neg, Real.exp_add]
  have := Real.exp_pos (-M)
  field_simp

end Cert.Softmax
-- ==== Proof.Value.KernelAt.lean ====
/- What the kernel computes at an index, over the extended reals: of a row, a head and a column of the head, the sum over the keys
   of the exponentials times the values, this device's keys and then the peer's, divided by the sum of the exponentials. -/
module

public import proofs.«01_k».proof.Proof.KernelIdeal.Heads
public import Idealize.ShloMosaic.Lib.Pointwise
public import Idealize.ShloMosaic.Lib.IdealHost

@[expose] public section

set_option maxRecDepth 16384

noncomputable section

namespace Cert.KernelIdeal.Att

open Idealize.ShloMosaic Cert.KernelIdeal.Gen

/-- The scale over the reals: D ** -0.5 as a float32 number. -/
def scaleR : ℝ := 11863283 / 134217728

theorem scaleC_eq : scaleC (F := Ideal) = (scaleR : EReal) :=
  IdealRules.named_const.ideal_named_scalar _ _ _ _ rfl

variable (q k v : FVec Ideal S1024x128 .bf16)

/-- The score of query row s against key t. -/
def score (s t : Fin 1024) : EReal := ∑ e : Fin 128, q (ix2 s e) * (scaleR : EReal) * k (ix2 t e)

theorem expScores_apply (s t : Fin 1024) : expScores q k (ix2 s t) = Ideal.exp (score q k s t) := by
  unfold expScores scaled score
  pointwise
  rw [scaleC_eq]

theorem sumExp_apply (s : Fin 1024) : sumExp q k (ix1 s) = ∑ t, Ideal.exp (score q k s t) := by
  unfold sumExp
  pointwise
  exact Finset.sum_congr rfl fun t _ => expScores_apply q k s t

theorem weighted_apply (s : Fin 1024) (d : Fin 128) :
    weighted q k v (ix2 s d) = ∑ t, Ideal.exp (score q k s t) * v (ix2 t d) := by
  unfold weighted
  pointwise
  exact Finset.sum_congr rfl fun t _ => by rw [expScores_apply]

theorem asIs_eq (x : FVec Ideal S1024x128 .bf16) : asIs x = x := by
  funext i
  unfold asIs
  pointwise

theorem localRow_apply (s : Fin 1024) : localRow q k (ix2 0 s) = ∑ t, Ideal.exp (score q k s t) := by
  unfold localRow
  pointwise
  rw [asIs_eq]
  exact sumExp_apply q k s

theorem combine_apply (l : FVec Ideal S1x1024 .f32) (o : FVec Ideal S1024x128 .f32) (l2 : FVec Ideal S1024 .f32)
    (o2 : FVec Ideal S1024x128 .f32) (s : Fin 1024) (d : Fin 128) :
    combine l o l2 o2 (ix2 s d) = (o (ix2 s d) + o2 (ix2 s d)) * Ideal.div 1 (l (ix2 0 s) + l2 (ix1 s)) := by
  unfold combine
  pointwise

/-- The matrix's column of column e of head h. -/
abbrev colOf (h : Fin 16) (e : Fin 128) : Fin 2048 := ⟨128 * h.val + e.val, by omega⟩

theorem cols_apply {α : Type} (X : S1024x2048.Idx → α) (h : Fin 16) (s : Fin 1024) (e : Fin 128) :
    cols X h (ix2 s e) = X (ix2 s (colOf h e)) := by
  unfold cols
  congr 1
  funext a
  fin_cases a <;> ext
  · show 0 + 1 * s.val = s.val
    omega
  · show 128 * h.val + 1 * e.val = 128 * h.val + e.val
    omega

/-- The score of query row s of matrix Q against key row t of matrix K, of head h. -/
def scoreAt (Q K : FVec Ideal S1024x2048 .bf16) (h : Fin 16) (s t : Fin 1024) : EReal :=
  ∑ e : Fin 128, Q (ix2 s (colOf h e)) * (scaleR : EReal) * K (ix2 t (colOf h e))

theorem score_cols (Q K : FVec Ideal S1024x2048 .bf16) (h : Fin 16) (s t : Fin 1024) :
    score (cols Q h) (cols K h) s t = scoreAt Q K h s t := by
  unfold score scoreAt
  exact Finset.sum_congr rfl fun e _ => by rw [cols_apply, cols_apply]

theorem headOut_apply (Q K V K' V' : FVec Ideal S1024x2048 .bf16) (h : Fin 16) (s : Fin 1024) (d : Fin 128) :
    headOut Q K V K' V' h (ix2 s d) =
      (∑ t, Ideal.exp (scoreAt Q K h s t) * V (ix2 t (colOf h d)) + ∑ t, Ideal.exp (scoreAt Q K' h s t) * V' (ix2 t (colOf h d)))
        * Ideal.div 1 (∑ t, Ideal.exp (scoreAt Q K h s t) + ∑ t, Ideal.exp (scoreAt Q K' h s t)) := by
  unfold headOut localCol localSum
  rw [combine_apply, asIs_eq, asIs_eq, weighted_apply, weighted_apply, localRow_apply, sumExp_apply]
  simp only [score_cols, cols_apply]

/-- The kernel's result at row s, head h and column d of the head. -/
theorem out_apply (Q K V K' V' : FVec Ideal S1024x2048 .bf16) (h : Fin 16) (s : Fin 1024) (d : Fin 128) :
    out Q K V K' V' (ix2 s (colOf h d)) =
      (∑ t, Ideal.exp (scoreAt Q K h s t) * V (ix2 t (colOf h d)) + ∑ t, Ideal.exp (scoreAt Q K' h s t) * V' (ix2 t (colOf h d)))
        * Ideal.div 1 (∑ t, Ideal.exp (scoreAt Q K h s t) + ∑ t, Ideal.exp (scoreAt Q K' h s t)) := by
  have hh : ∀ p, (⟨(colOf h d).val / 128, p⟩ : Fin 16) = h := fun _ => Fin.ext (by show (128 * h.val + d.val) / 128 = h.val; omega)
  rw [← headOut_apply]
  unfold out
  congr 1
  · exact hh _
  · funext a
    fin_cases a
    · rfl
    · exact Fin.ext (by show (128 * h.val + d.val) % 128 = d.val; omega)

end Cert.KernelIdeal.Att

end
-- ==== Proof.Value.ReferenceAt.lean ====
/- What the reference computes at an index, over the extended reals: of a row, a head and a column of the head, the sum over all
   the keys of the values times the normalized exponentials of the scores, the greatest score subtracted first. -/
module

public import proofs.«01_k».proof.Proof.Gen.ReferenceIdeal
public import Idealize.ShloMosaic.Lib.Pointwise
public import Idealize.ShloMosaic.Lib.IdealHost

@[expose] public section

set_option maxRecDepth 16384

noncomputable section

namespace Cert.ReferenceIdeal.Att

open Idealize.ShloMosaic Cert.ReferenceIdeal Cert.ReferenceIdeal.Gen

/-- The scores, of a head, a query row and a key row. -/
def scores (Q K : FVec Ideal S1x2048x16x128 .bf16) : FVec Ideal S1x16x2048x2048 .f32 :=
  mulf (Host.dotGeneral dot_S1x2048x16x128_S1x2048x16x128_S1x16x2048x2048_3_3_1_1_02_02 none
      (extf .f32 Q bitsLt_bf16_f32) (extf .f32 K bitsLt_bf16_f32))
    (broadcastInDim S1x16x2048x2048 ![] bcast_S_S1x16x2048x2048 (constant S_ .f32 0x3DB504F3#32))

/-- A number for each head and query row, repeated along the key rows. -/
def along (x : FVec Ideal S1x16x2048 .f32) : FVec Ideal S1x16x2048x2048 .f32 :=
  broadcastInDim S1x16x2048x2048 ![0, 1, 2, 3] bcast_S1x16x2048x1_S1x16x2048x2048_0_1_2_3
    (broadcastInDim S1x16x2048x1 ![0, 1, 2] bcast_S1x16x2048_S1x16x2048x1_0_1_2 x)

/-- The greatest score of each query row. -/
def greatest (S : FVec Ideal S1x16x2048x2048 .f32) : FVec Ideal S1x16x2048 .f32 :=
  Host.reduce FloatOps.maximumf S (constant S_ .f32 0xFF800000#32) reducesTo_S1x16x2048x2048_S1x16x2048_d3 h_S_

/-- The exponentials of the shifted scores. -/
def exps (S : FVec Ideal S1x16x2048x2048 .f32) : FVec Ideal S1x16x2048x2048 .f32 := Host.exp (subf S (along (greatest S)))

/-- The exponentials, each divided by the sum of its row. -/
def normalized (E : FVec Ideal S1x16x2048x2048 .f32) : FVec Ideal S1x16x2048x2048 .f32 :=
  Host.divf E (along (Host.reduceAdd E (constant S_ .f32 0x00000000#32) reducesTo_S1x16x2048x2048_S1x16x2048_d3 h_S_))

/-- The reference's result. -/
def result (Q K V : FVec Ideal S1x2048x16x128 .bf16) : FVec Ideal S1x2048x16x128 .f32 :=
  transpose S1x2048x16x128 [0, 3, 1, 2]
    (Host.dotGeneral dot_S1x2048x16x128_S1x16x2048x2048_S1x16x128x2048_1_3_3_2_02_01 none
      (extf .f32 V bitsLt_bf16_f32) (normalized (exps (scores Q K))))
    transposes_S1x16x128x2048_S1x2048x16x128_0_3_1_2

/-- The score of query row s against key row t, of head h. -/
def scoreAt (Q K : FVec Ideal S1x2048x16x128 .bf16) (h : Fin 16) (s t : Fin 2048) : EReal :=
  (∑ e : Fin 128, Q (ix4 0 s h e) * K (ix4 0 t h e)) * Ideal.ofBits .f32 0x3DB504F3#32

theorem scores_apply (Q K : FVec Ideal S1x2048x16x128 .bf16) (h : Fin 16) (s t : Fin 2048) :
    scores Q K (ix4 0 h s t) = scoreAt Q K h s t := by
  unfold scores scoreAt
  pointwise

theorem along_apply (x : FVec Ideal S1x16x2048 .f32) (h : Fin 16) (s t : Fin 2048) : along x (ix4 0 h s t) = x (ix3 0 h s) := by
  unfold along
  pointwise

theorem greatest_apply (S : FVec Ideal S1x16x2048x2048 .f32) (h : Fin 16) (s : Fin 2048) :
    greatest S (ix3 0 h s) = Finset.univ.fold max (Ideal.ofBits .f32 0xFF800000#32) fun t : Fin 2048 => S (ix4 0 h s t) := by
  unfold greatest
  pointwise

theorem exps_apply (S : FVec Ideal S1x16x2048x2048 .f32) (h : Fin 16) (s t : Fin 2048) :
    exps S (ix4 0 h s t) = Ideal.exp (S (ix4 0 h s t) - greatest S (ix3 0 h s)) := by
  unfold exps
  pointwise
  rw [along_apply]

theorem normalized_apply (E : FVec Ideal S1x16x2048x2048 .f32) (h : Fin 16) (s t : Fin 2048) :
    normalized E (ix4 0 h s t) = Ideal.div (E (ix4 0 h s t)) (∑ u : Fin 2048, E (ix4 0 h s u)) := by
  unfold normalized
  pointwise
  rw [along_apply]
  pointwise

/-- The reference's result at row s, head h and column d of the head. -/
theorem result_apply (Q K V : FVec Ideal S1x2048x16x128 .bf16) (s : Fin 2048) (h : Fin 16) (d : Fin 128) :
    result Q K V (ix4 0 s h d) =
      ∑ t : Fin 2048, V (ix4 0 t h d) * normalized (exps (scores Q K)) (ix4 0 h s t) := by
  unfold result
  pointwise

end Cert.ReferenceIdeal.Att

end
-- ==== Proof.Value.Equation.lean ====
/- The equation of the certificate, over the extended reals: given the whole queries, keys and values, the queries and keys finite,
   the kernel's result from the two halves of the rows is the reference's. -/
module

public import proofs.«01_k».proof.Proof.Value.Softmax
public import proofs.«01_k».proof.Proof.Value.KernelAt
public import proofs.«01_k».proof.Proof.Value.ReferenceAt

@[expose] public section

noncomputable section

namespace Cert.Value

open Idealize.ShloMosaic

/-- The reference's constant is the number that the kernel's scale is named. -/
theorem scale_bits : Ideal.ofBits .f32 0x3DB504F3#32 = (Cert.KernelIdeal.Att.scaleR : EReal) := by
  unfold Cert.KernelIdeal.Att.scaleR
  simp [Ideal.ofBits, Ideal.ieee, -EReal.coe_mul]
  norm_num

theorem bottom_bits : Ideal.ofBits .f32 0xFF800000#32 = ⊥ := by
  simp [Ideal.ofBits, Ideal.ieee]

/-- The half (of 2) of the rows that holds row s (of 1024) of it. -/
abbrev rowAt (y : Fin 2) (s : Fin 1024) : Fin 2048 := ⟨1024 * y.val + s.val, by omega⟩

/-- The other half. -/
abbrev other (y : Fin 2) : Fin 2 := ⟨1 - y.val, by omega⟩

/-- A sum over all the rows is a sum over either half and one over the other half. -/
theorem sum_halves {M : Type} [AddCommMonoid M] (f : Fin 2048 → M) (y : Fin 2) :
    ∑ t, f t = ∑ t, f (rowAt y t) + ∑ t, f (rowAt (other y) t) := by
  have h : ∑ t, f t = ∑ t, f (rowAt 0 t) + ∑ t, f (rowAt 1 t) := by
    rw [show (∑ t, f t) = ∑ t : Fin (1024 + 1024), f t from rfl, Fin.sum_univ_add]
    congr 1
  rcases Fin.exists_fin_two.1 ⟨y, rfl⟩ with rfl | rfl
  · exact h
  · rw [h, add_comm]
    rfl

abbrev Whole : Type := FVec Ideal ⟨4, ![1, 2048, 16, 128]⟩ .bf16
abbrev Half : Type := FVec Ideal ⟨2, ![1024, 2048]⟩ .bf16

/-- The matrix X holds half y of the rows of the whole array W. -/
def Holds (y : Fin 2) (X : Half) (W : Whole) : Prop :=
  ∀ (s : Fin 1024) (h : Fin 16) (e : Fin 128), X (ix2 s (Cert.KernelIdeal.Att.colOf h e)) = W (ix4 0 (rowAt y s) h e)

/-- The score of query row r against key row t, of head h, for real queries and keys. -/
def realScore (q k : (⟨4, ![1, 2048, 16, 128]⟩ : Shape).Idx → ℝ) (h : Fin 16) (r t : Fin 2048) : ℝ :=
  (∑ e : Fin 128, q (ix4 0 r h e) * k (ix4 0 t h e)) * Cert.KernelIdeal.Att.scaleR

section
variable {Q K : Whole} {q k : (⟨4, ![1, 2048, 16, 128]⟩ : Shape).Idx → ℝ}
  (hq : ∀ i, Q i = ((q i : ℝ) : EReal)) (hk : ∀ i, K i = ((k i : ℝ) : EReal))
include hq hk

theorem reference_score (h : Fin 16) (r t : Fin 2048) :
    Cert.ReferenceIdeal.Att.scoreAt Q K h r t = ((realScore q k h r t : ℝ) : EReal) := by
  unfold Cert.ReferenceIdeal.Att.scoreAt realScore
  simp only [hq, hk, ← EReal.coe_mul, Softmax.coe_sum, scale_bits]

theorem kernel_score {y z : Fin 2} {X Y : Half} (hX : Holds y X Q) (hY : Holds z Y K) (h : Fin 16) (s t : Fin 1024) :
    Cert.KernelIdeal.Att.scoreAt X Y h s t = ((realScore q k h (rowAt y s) (rowAt z t) : ℝ) : EReal) := by
  unfold Cert.KernelIdeal.Att.scoreAt realScore
  simp only [hX _ _ _, hY _ _ _, hq, hk, ← EReal.coe_mul, Softmax.coe_sum]
  congr 1
  rw [Finset.sum_mul]
  exact Finset.sum_congr rfl fun e _ => by ring

/-- Row s of half y, head h, column d: the kernel's result is the reference's. -/
theorem kernel_eq_reference {V : Whole} {y : Fin 2} {X Y Z Y' Z' : Half} (hX : Holds y X Q) (hY : Holds y Y K) (hZ : Holds y Z V)
    (hY' : Holds (other y) Y' K) (hZ' : Holds (other y) Z' V) (s : Fin 1024) (h : Fin 16) (d : Fin 128) :
    Cert.KernelIdeal.Att.out X Y Z Y' Z' (ix2 s (Cert.KernelIdeal.Att.colOf h d))
      = Cert.ReferenceIdeal.Att.result Q K V (ix4 0 (rowAt y s) h d) := by
  obtain ⟨M, hM⟩ := Softmax.fold_max_coe fun t : Fin 2048 => realScore q k h (rowAt y s) t
  have hgreat : Cert.ReferenceIdeal.Att.greatest (Cert.ReferenceIdeal.Att.scores Q K) (ix3 0 h (rowAt y s)) = (M : EReal) := by
    rw [Cert.ReferenceIdeal.Att.greatest_apply, bottom_bits, ← hM]
    exact congrArg (fun f => Finset.univ.fold max ⊥ f) (funext fun t => by
      rw [Cert.ReferenceIdeal.Att.scores_apply, reference_score hq hk])
  rw [Cert.KernelIdeal.Att.out_apply, Cert.ReferenceIdeal.Att.result_apply]
  simp only [Cert.ReferenceIdeal.Att.normalized_apply, Cert.ReferenceIdeal.Att.exps_apply, hgreat,
    Cert.ReferenceIdeal.Att.scores_apply, reference_score hq hk, kernel_score hq hk hX hY, kernel_score hq hk hX hY',
    hZ _ _ _, hZ' _ _ _]
  rw [Softmax.normalize (fun t : Fin 2048 => realScore q k h (rowAt y s) t) (fun t => V (ix4 0 t h d)) M,
    sum_halves (fun t => Ideal.exp ((realScore q k h (rowAt y s) t : ℝ) : EReal) * V (ix4 0 t h d)) y,
    sum_halves (fun t => Ideal.exp ((realScore q k h (rowAt y s) t : ℝ) : EReal)) y]
end

end Cert.Value

end
-- ==== Proof.Value.Halves.lean ====
/- How the whole arrays lie on the devices: a device of y-coordinate y holds half y of the rows, as a matrix with the columns of
   the heads side by side, and its peer along y holds the other half. -/
module

public import proofs.«01_k».proof.Proof.Value.Equation
public import Idealize.ShloMosaic.Lib.Layout

@[expose] public section

set_option maxRecDepth 16384

noncomputable section

namespace Cert.Value

open Idealize.ShloMosaic Cert.KernelIdeal Cert.KernelIdeal.Gen

/-- A device's y-coordinate. -/
def yOf (c : Fin 16) : Fin 2 := ⟨c.val / 4 % 2, by omega⟩

/-- Device c's block of a whole array. -/
abbrev blockOf {α : Type} (c : Fin 16) (W : (⟨4, ![1, 2048, 16, 128]⟩ : Shape).Idx → α) : (⟨4, ![1, 1024, 16, 128]⟩ : Shape).Idx → α :=
  Layout.blockN ⟨4, ![1, 1024, 16, 128]⟩ ⟨4, ![1, 2048, 16, 128]⟩ (Layout.meshBlock [2, 2, 4] ![[], [1], [], []] c) W

theorem blockOf_apply {α : Type} (c : Fin 16) (W : (⟨4, ![1, 2048, 16, 128]⟩ : Shape).Idx → α) (s : Fin 1024) (h : Fin 16)
    (e : Fin 128) : blockOf c W (ix4 0 s h e) = W (ix4 0 (rowAt (yOf c) s) h e) := by
  unfold blockOf
  rw [Layout.blockN_apply]
  refine congrArg W (funext fun a => Fin.ext ?_)
  rw [Layout.TilesN.idx_val]
  fin_cases a
  · rfl
  · show (c.val / 4 % 2 * 1 + 0) * 1024 + s.val = 1024 * (c.val / 4 % 2) + s.val
    omega
  · show 0 * 16 + h.val = h.val
    omega
  · show 0 * 128 + e.val = e.val
    omega

/-- The block as a matrix holds the device's half of the rows. -/
theorem holds_block (c : Fin 16) (W : Whole) :
    Holds (yOf c) (shapeCast S1024x2048 (blockOf c W) shapeCasts_S1x1024x16x128_S1024x2048) W := by
  intro s h e
  rw [← blockOf_apply c W]
  pointwise
  congr 1
  refine congrArg₂ (ix4 0 s) (Fin.ext ?_) (Fin.ext ?_)
  · show (128 * h.val + e.val) / 128 = h.val
    omega
  · show (128 * h.val + e.val) % 128 = e.val
    omega

/-- The result's matrix as an array. -/
theorem array_apply {α : Type} (X : S1024x2048.Idx → α) (s : Fin 1024) (h : Fin 16) (d : Fin 128) :
    shapeCast S1x1024x16x128 X shapeCasts_S1024x2048_S1x1024x16x128 (ix4 0 s h d) = X (ix2 s (Att.colOf h d)) := by
  pointwise
  refine congrArg X (congrArg (ix2 s) (Fin.ext ?_))
  show h.val * 128 + d.val = 128 * h.val + d.val
  omega

end Cert.Value

end
-- ==== Proof.Value.Finite.lean ====
/- The precondition, read back: every query and every key is a real number. -/
module

public import proofs.«01_k».proof.Pre_finite_qk_KernelIdeal
public import proofs.«01_k».proof.Pre_finite_qk_ReferenceIdeal
public import Idealize.ShloMosaic.Lib.ReduceAll
public import Idealize.ShloMosaic.Lib.Pointwise

@[expose] public section

noncomputable section

namespace Cert.Pre_finite_qk_KernelIdeal

theorem proved : Facts where
  bitsLt_bf16_f32 := by decide
  bcast_S_S1x1024x16x128 := by decide
  reducesTo_S1x1024x16x128_S_d0_1_2_3 := by decide
  h_S_ := by decide

end Cert.Pre_finite_qk_KernelIdeal

namespace Cert.Pre_finite_qk_ReferenceIdeal

theorem proved : Facts where
  bitsLt_bf16_f32 := by decide
  bcast_S_S1x2048x16x128 := by decide
  reducesTo_S1x2048x16x128_S_d0_1_2_3 := by decide
  h_S_ := by decide

end Cert.Pre_finite_qk_ReferenceIdeal

namespace Cert.Value

open Idealize.ShloMosaic Cert.Pre_finite_qk_KernelIdeal

theorem top_bits : Ideal.ofBits .f32 0x7F800000#32 = ⊤ := by
  simp [Ideal.ofBits, Ideal.ieee]

/-- An extended real whose magnitude is below ∞ is a real. -/
theorem real_of_abs_lt {x : EReal} (h : max x (-x) < ⊤) : ∃ r : ℝ, x = (r : EReal) := by
  induction x with
  | bot => simp at h
  | coe r => exact ⟨r, rfl⟩
  | top => simp at h

/-- The comparison of the magnitude with ∞ that came out true. -/
theorem real_of_cmp {x : EReal} (h : Ideal.cmp .olt (max x (-x)) (Ideal.ofBits .f32 0x7F800000#32) = 1#1) :
    ∃ r : ℝ, x = (r : EReal) := by
  rw [top_bits] at h
  refine real_of_abs_lt (by_contra fun hn => ?_)
  simp [Ideal.cmp, hn] at h

/-- On a device where the precondition holds, the queries and the keys are real. -/
theorem finite_of_pre [Facts] {Q K V : FVec Ideal S1x1024x16x128 .bf16} (h : fn (F := Ideal) Q K V = fun _ => 1#1) :
    (∀ i, ∃ r : ℝ, Q i = (r : EReal)) ∧ ∀ i, ∃ r : ℝ, K i = (r : EReal) := by
  have h0 := congrFun h (Shape.Idx.first Facts.h_S_)
  haveI : Subsingleton S_.Idx := ⟨fun a b => funext fun x => x.elim0⟩
  obtain ⟨hQ, hK⟩ := IntOp.andi_eq_one.1 h0
  exact ⟨fun i => real_of_cmp (Host.reduce_andi_all _ _ _ _ _ hQ i), fun i => real_of_cmp (Host.reduce_andi_all _ _ _ _ _ hK i)⟩

end Cert.Value

end
-- ==== Proof.Value.Final.lean ====
/- The kernel's result on each device is that device's block of the reference's result. -/
module

public import proofs.«01_k».proof.Proof.KernelIdeal.Launch
public import proofs.«01_k».proof.Proof.Value.Halves
public import proofs.«01_k».proof.Proof.Value.Finite

@[expose] public section

noncomputable section

namespace Cert.Value

open Idealize.ShloMosaic Idealize.ShloMosaic.TcCoe Idealize.SL.Sem Cert.KernelIdeal Cert.KernelIdeal.Gen

/-- The peer holds the other half. -/
theorem yOf_peer : ∀ c : Fin 16, yOf (Att.pr c) = other (yOf c) := by decide

/-- Row r lies on a device. -/
theorem row_of_device (r : Fin 2048) : ∃ (c : Fin 16) (s : Fin 1024), rowAt (yOf c) s = r := by
  by_cases h : r.val < 1024
  · exact ⟨0, ⟨r.val, h⟩, Fin.ext (by show 1024 * (0 / 4 % 2) + r.val = r.val; omega)⟩
  · exact ⟨4, ⟨r.val - 1024, by omega⟩, Fin.ext (by show 1024 * (4 / 4 % 2) + (r.val - 1024) = r.val; omega)⟩

/-- A whole array whose blocks are real on every device is real. -/
theorem real_whole {W : Whole} (h : ∀ c i, ∃ r : ℝ, blockOf c W i = (r : EReal)) : ∃ w : (⟨4, ![1, 2048, 16, 128]⟩ : Shape).Idx → ℝ,
    ∀ i, W i = ((w i : ℝ) : EReal) := by
  suffices H : ∀ i, ∃ r : ℝ, W i = (r : EReal) from ⟨fun i => (H i).choose, fun i => (H i).choose_spec⟩
  intro i
  obtain ⟨a, r, g, e, rfl⟩ : ∃ (a : Fin 1) (r : Fin 2048) (g : Fin 16) (e : Fin 128), i = ix4 a r g e := ⟨i 0, i 1, i 2, i 3, eq_ix4 i⟩
  obtain rfl : a = 0 := Subsingleton.elim _ _
  obtain ⟨c, s, rfl⟩ := row_of_device r
  rw [← blockOf_apply c W]
  exact h c _

variable {m : (ℓ : Loc nD τ sig) → Buf (Elt Ideal) ℓ} {Q K V : Whole}

/-- From memories that hold the blocks of finite queries and keys and of any values, what the kernel leaves on device c is block c
    of the reference's result. -/
theorem result_block
    (hQ : ∀ c : Dev nD, m ((c.tc : Thread nD τ).loc main_arg0) = blockOf c Q)
    (hK : ∀ c : Dev nD, m ((c.tc : Thread nD τ).loc main_arg1) = blockOf c K)
    (hV : ∀ c : Dev nD, m ((c.tc : Thread nD τ).loc main_arg2) = blockOf c V)
    (fQ : ∀ c i, ∃ r : ℝ, blockOf c Q i = (r : EReal)) (fK : ∀ c i, ∃ r : ℝ, blockOf c K i = (r : EReal)) (c : Dev nD) :
    shapeCast S1x1024x16x128 (Att.outOf m c) shapeCasts_S1024x2048_S1x1024x16x128
      = blockOf c (Cert.ReferenceIdeal.Att.result Q K V) := by
  obtain ⟨q, hq⟩ := real_whole fQ
  obtain ⟨k, hk⟩ := real_whole fK
  have hX : ∀ c : Dev nD, Holds (yOf c) (Att.qOf m c) Q := fun c => by
    rw [Att.qOf_eq, show m (c, Proc.devRef .tc main_arg0) = blockOf c Q from hQ c]; exact holds_block c Q
  have hY : ∀ c : Dev nD, Holds (yOf c) (Att.kvOf m c false) K := fun c => by
    rw [Att.kOf_eq, show m (c, Proc.devRef .tc main_arg1) = blockOf c K from hK c]; exact holds_block c K
  have hZ : ∀ c : Dev nD, Holds (yOf c) (Att.kvOf m c true) V := fun c => by
    rw [Att.vOf_eq, show m (c, Proc.devRef .tc main_arg2) = blockOf c V from hV c]; exact holds_block c V
  have hY' := hY (Att.pr c)
  have hZ' := hZ (Att.pr c)
  rw [yOf_peer] at hY' hZ'
  funext i
  obtain ⟨a, s, h, d, rfl⟩ : ∃ (a : Fin 1) (s : Fin 1024) (h : Fin 16) (d : Fin 128), i = ix4 a s h d := ⟨i 0, i 1, i 2, i 3, eq_ix4 i⟩
  obtain rfl : a = 0 := Subsingleton.elim _ _
  rw [blockOf_apply, array_apply]
  exact kernel_eq_reference hq hk (hX c) (hY c) (hZ c) hY' hZ' s h d

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Final
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel runs, leaves its arguments and ends with every counter at zero. -/
theorem frame_kernel : quiescent_Kernel (hKernel := Cert.Kernel.Gen.facts) := fun m g _ =>
  (θ_run _ _ _).mono (fun _ h => ⟨fun c => (h.1 c).1, h.2⟩) (Cert.Kernel.Att.run_main m g)

/-- The same of the idealized kernel, from any memory. -/
theorem frame_ideal : quiescent_KernelIdeal (hKernelIdeal := Cert.KernelIdeal.Gen.facts) := fun m g _ =>
  (θ_run _ _ _).mono (fun _ h => ⟨fun c => (h.1 c).1, h.2⟩) (Cert.KernelIdeal.Att.run_main m g)

/-- The same of the reference, which has no semaphores. -/
theorem frame_reference : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The scale's name stands for the number that the certificate states. -/
theorem scale_named : preserves_Kernel_KernelIdeal :=
  IdealRules.named_const.statement Cert.KernelIdeal.κ "scale" .bf16 0x3DB5#16 ((11863283 / 134217728 : ℝ) : EReal) rfl

/-- From finite queries and keys, device c's result is block c of the reference's. -/
theorem value : algebraic_KernelIdeal_ReferenceIdeal_pre_finite_qk_KernelIdeal (hKernelIdeal := Cert.KernelIdeal.Gen.facts)
    (hReferenceIdeal := Cert.ReferenceIdeal.Gen.facts) (hPre_finite_qk_KernelIdeal := Cert.Pre_finite_qk_KernelIdeal.proved) := by
  intro m g m' g' hpre hin
  haveI := Cert.Pre_finite_qk_KernelIdeal.proved
  refine ⟨Cert.ReferenceIdeal.Att.result _ _ _, (θ_run _ _ _).mono (fun _ h c => ?_) (Cert.KernelIdeal.Att.run_main m g),
    (θ_run _ _ _).mono (fun _ h => h 0) (Cert.ReferenceIdeal.Value.run m' g')⟩
  refine ⟨(h.1 c).2.trans (Cert.Value.result_block (fun c => (hin c).1) (fun c => (hin c).2.1) (fun c => (hin c).2.2) ?_ ?_ c), (h.1 c).1⟩
  · intro c i
    have := (Cert.Value.finite_of_pre (hpre c)).1 i
    rwa [(hin c).1] at this
  · intro c i
    have := (Cert.Value.finite_of_pre (hpre c)).2 i
    rwa [(hin c).2.1] at this

theorem claim : Cert.Claim :=
  ⟨Cert.Kernel.Gen.facts, Cert.KernelIdeal.Gen.facts, Cert.ReferenceIdeal.Gen.facts, Cert.Pre_finite_qk_KernelIdeal.proved,
    Cert.Pre_finite_qk_ReferenceIdeal.proved, frame_kernel, frame_ideal, fun m g _ => frame_ideal m g trivial, frame_reference,
    fun m g _ => frame_reference m g trivial, scale_named, value⟩

end Cert.Proof

end
